-- ==== Defs.lean ====
def Pre_Kernel [hPre_targets_in_vocab : Cert.Pre_targets_in_vocab.Facts] (m : (ℓ : Loc Cert.Kernel.nD Cert.Kernel.τ Cert.Kernel.sig) → Buf (Elt Bits) ℓ) : Prop :=
  ∀ c : Dev Cert.Kernel.nD,
    (Cert.Pre_targets_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_targets_in_vocab : Cert.Pre_targets_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_targets_in_vocab : Cert.Pre_targets_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_targets_in_vocab : Cert.Pre_targets_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "u_log_u" .f32 0xB826284D#32 (((6872377 / 2199023255552) * (Real.log (6872377 / 2199023255552)) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_targets_in_vocab : Cert.Pre_targets_in_vocab.Facts) (hPre_in_range : Cert.Pre_in_range.Facts),
    quiescent_Kernel (hKernel := hKernel) (hPre_targets_in_vocab := hPre_targets_in_vocab)
    ∧ quiescent_KernelIdeal (hKernelIdeal := hKernelIdeal) (hPre_targets_in_vocab := hPre_targets_in_vocab)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x512x32000 : Shape := ⟨3, ![4, 512, 32000]⟩
abbrev S4x512 : Shape := ⟨2, ![4, 512]⟩
abbrev S_ : Shape := ⟨0, ![]⟩

class Facts : Prop where
  bcast_S_S4x512 : S_.BroadcastsInDim S4x512 (![] : Fin 0 → Fin S4x512.rank)
  reducesTo_S4x512_S_d0_1 : S4x512.ReducesTo [0, 1] S_
  h_S_ : 0 < S_.numel

variable [Facts]

def fn_part1 {F : FTy → Type} [FloatOps F] (main_arg3 : FVec F S4x512 .f32) (main_v12 : IVec S_ 1) (main_v14 : IVec S4x512 1) (main_v15 : FVec F S4x512 .f32) : IVec S_ 1 :=
  let main_v16 : IVec S4x512 1 := cmpf .ole main_arg3 main_v15
  let main_v17 : IVec S4x512 1 := andi main_v14 main_v16
  let main_c_6 : IVec S_ 1 := constantI S_ 1 1#1
  let main_v18 : IVec S_ 1 := (fun x v => Host.reduce IntOp.andi x v reducesTo_S4x512_S_d0_1 h_S_) main_v17 main_c_6
  let main_v19 : IVec S_ 1 := andi main_v12 main_v18
  main_v19

def fn {F : FTy → Type} [FloatOps F] (main_arg0 : FVec F S4x512x32000 .f32) (main_arg1 : IVec S4x512 32) (main_arg2 : IVec S4x512 32) (main_arg3 : FVec F S4x512 .f32) : IVec S_ 1 :=
  let main_c : IVec S_ 32 := constantI S_ 32 0#32
  let main_v0 : IVec S4x512 32 := broadcastInDim S4x512 ![] bcast_S_S4x512 main_c
  let main_v1 : IVec S4x512 1 := cmpi .sge main_arg1 main_v0
  let main_c_0 : IVec S_ 32 := constantI S_ 32 32000#32
  let main_v2 : IVec S4x512 32 := broadcastInDim S4x512 ![] bcast_S_S4x512 main_c_0
  let main_v3 : IVec S4x512 1 := cmpi .slt main_arg1 main_v2
  let main_v4 : IVec S4x512 1 := andi main_v1 main_v3
  let main_c_1 : IVec S_ 1 := constantI S_ 1 1#1
  let main_v5 : IVec S_ 1 := (fun x v => Host.reduce IntOp.andi x v reducesTo_S4x512_S_d0_1 h_S_) main_v4 main_c_1
  let main_c_2 : IVec S_ 32 := constantI S_ 32 0#32
  let main_v6 : IVec S4x512 32 := broadcastInDim S4x512 ![] bcast_S_S4x512 main_c_2
  let main_v7 : IVec S4x512 1 := cmpi .sge main_arg2 main_v6
  let main_c_3 : IVec S_ 32 := constantI S_ 32 32000#32
  let main_v8 : IVec S4x512 32 := broadcastInDim S4x512 ![] bcast_S_S4x512 main_c_3
  let main_v9 : IVec S4x512 1 := cmpi .slt main_arg2 main_v8
  let main_v10 : IVec S4x512 1 := andi main_v7 main_v9
  let main_c_4 : IVec S_ 1 := constantI S_ 1 1#1
  let main_v11 : IVec S_ 1 := (fun x v => Host.reduce IntOp.andi x v reducesTo_S4x512_S_d0_1 h_S_) main_v10 main_c_4
  let main_v12 : IVec S_ 1 := andi main_v5 main_v11
  let main_cst : FVec F S_ .f32 := constant S_ .f32 0x00000000#32
  let main_v13 : FVec F S4x512 .f32 := broadcastInDim S4x512 ![] bcast_S_S4x512 main_cst
  let main_v14 : IVec S4x512 1 := cmpf .oge main_arg3 main_v13
  let main_cst_5 : FVec F S_ .f32 := constant S_ .f32 0x3F800000#32
  let main_v15 : FVec F S4x512 .f32 := broadcastInDim S4x512 ![] bcast_S_S4x512 main_cst_5
  fn_part1 (F := F) main_arg3 main_v12 main_v14 main_v15
-- ==== Pre_targets_in_vocab.lean ====
abbrev S4x512x32000 : Shape := ⟨3, ![4, 512, 32000]⟩
abbrev S4x512 : Shape := ⟨2, ![4, 512]⟩
abbrev S_ : Shape := ⟨0, ![]⟩

class Facts : Prop where
  bcast_S_S4x512 : S_.BroadcastsInDim S4x512 (![] : Fin 0 → Fin S4x512.rank)
  reducesTo_S4x512_S_d0_1 : S4x512.ReducesTo [0, 1] S_
  h_S_ : 0 < S_.numel

variable [Facts]

def fn {F : FTy → Type} [FloatOps F] (main_arg0 : FVec F S4x512x32000 .f32) (main_arg1 : IVec S4x512 32) (main_arg2 : IVec S4x512 32) (main_arg3 : FVec F S4x512 .f32) : IVec S_ 1 :=
  let main_c : IVec S_ 32 := constantI S_ 32 0#32
  let main_v0 : IVec S4x512 32 := broadcastInDim S4x512 ![] bcast_S_S4x512 main_c
  let main_v1 : IVec S4x512 1 := cmpi .sge main_arg1 main_v0
  let main_c_0 : IVec S_ 32 := constantI S_ 32 32000#32
  let main_v2 : IVec S4x512 32 := broadcastInDim S4x512 ![] bcast_S_S4x512 main_c_0
  let main_v3 : IVec S4x512 1 := cmpi .slt main_arg1 main_v2
  let main_v4 : IVec S4x512 1 := andi main_v1 main_v3
  let main_c_1 : IVec S_ 1 := constantI S_ 1 1#1
  let main_v5 : IVec S_ 1 := (fun x v => Host.reduce IntOp.andi x v reducesTo_S4x512_S_d0_1 h_S_) main_v4 main_c_1
  let main_c_2 : IVec S_ 32 := constantI S_ 32 0#32
  let main_v6 : IVec S4x512 32 := broadcastInDim S4x512 ![] bcast_S_S4x512 main_c_2
  let main_v7 : IVec S4x512 1 := cmpi .sge main_arg2 main_v6
  let main_c_3 : IVec S_ 32 := constantI S_ 32 32000#32
  let main_v8 : IVec S4x512 32 := broadcastInDim S4x512 ![] bcast_S_S4x512 main_c_3
  let main_v9 : IVec S4x512 1 := cmpi .slt main_arg2 main_v8
  let main_v10 : IVec S4x512 1 := andi main_v7 main_v9
  let main_c_4 : IVec S_ 1 := constantI S_ 1 1#1
  let main_v11 : IVec S_ 1 := (fun x v => Host.reduce IntOp.andi x v reducesTo_S4x512_S_d0_1 h_S_) main_v10 main_c_4
  let main_v12 : IVec S_ 1 := andi main_v5 main_v11
  main_v12
-- ==== Kernel.lean ====
abbrev S4x512x32000 : Shape := ⟨3, ![4, 512, 32000]⟩
abbrev S4x512 : Shape := ⟨2, ![4, 512]⟩
abbrev S2048x32000 : Shape := ⟨2, ![2048, 32000]⟩
abbrev S1x2048 : Shape := ⟨2, ![1, 2048]⟩
abbrev S8x2048 : Shape := ⟨2, ![8, 2048]⟩
abbrev S2048 : Shape := ⟨1, ![2048]⟩
abbrev S65536000 : Shape := ⟨1, ![65536000]⟩
abbrev S3x2048 : Shape := ⟨2, ![3, 2048]⟩
abbrev S64 : Shape := ⟨1, ![64]⟩
abbrev S_ : Shape := ⟨0, ![]⟩
abbrev S1x64 : Shape := ⟨2, ![1, 64]⟩
abbrev S16 : Shape := ⟨1, ![16]⟩
abbrev S2048x1 : Shape := ⟨2, ![2048, 1]⟩
abbrev S256x1 : Shape := ⟨2, ![256, 1]⟩
abbrev S256x6400 : Shape := ⟨2, ![256, 6400]⟩

abbrev nBuf : Table → Nat
  | .hbm => 25
  | .local .tc .vmem => 18
  | .local .scVector .vmem => 17
  | _ => 0

abbrev bufTy : (tb : Table) → Fin (nBuf tb) → BufTy
  | .hbm, ⟨0, _⟩ => ⟨S4x512x32000, .f32⟩
  | .hbm, ⟨1, _⟩ => ⟨S4x512, .i32⟩
  | .hbm, ⟨2, _⟩ => ⟨S4x512, .i32⟩
  | .hbm, ⟨3, _⟩ => ⟨S4x512, .f32⟩
  | .hbm, ⟨4, _⟩ => ⟨S2048x32000, .f32⟩
  | .hbm, ⟨5, _⟩ => ⟨S1x2048, .i32⟩
  | .hbm, ⟨6, _⟩ => ⟨S1x2048, .i32⟩
  | .hbm, ⟨7, _⟩ => ⟨S1x2048, .f32⟩
  | .hbm, ⟨8, _⟩ => ⟨S8x2048, .f32⟩
  | .hbm, ⟨9, _⟩ => ⟨S2048, .i32⟩
  | .hbm, ⟨10, _⟩ => ⟨S2048, .i32⟩
  | .hbm, ⟨11, _⟩ => ⟨S65536000, .f32⟩
  | .hbm, ⟨12, _⟩ => ⟨S3x2048, .f32⟩
  | .hbm, ⟨13, _⟩ => ⟨S1x2048, .f32⟩
  | .hbm, ⟨14, _⟩ => ⟨S2048, .f32⟩
  | .hbm, ⟨15, _⟩ => ⟨S2048x1, .f32⟩
  | .hbm, ⟨16, _⟩ => ⟨S1x2048, .f32⟩
  | .hbm, ⟨17, _⟩ => ⟨S2048, .f32⟩
  | .hbm, ⟨18, _⟩ => ⟨S2048x1, .f32⟩
  | .hbm, ⟨19, _⟩ => ⟨S1x2048, .f32⟩
  | .hbm, ⟨20, _⟩ => ⟨S2048, .f32⟩
  | .hbm, ⟨21, _⟩ => ⟨S2048x1, .f32⟩
  | .hbm, ⟨22, _⟩ => ⟨S2048x1, .i32⟩
  | .hbm, ⟨23, _⟩ => ⟨S2048x1, .i32⟩
  | .hbm, ⟨24, _⟩ => ⟨S2048x32000, .f32⟩
  | .local .tc .vmem, ⟨0, _⟩ => ⟨S1x2048, .i32⟩
  | .local .tc .vmem, ⟨1, _⟩ => ⟨S1x2048, .i32⟩
  | .local .tc .vmem, ⟨2, _⟩ => ⟨S1x2048, .f32⟩
  | .local .tc .vmem, ⟨3, _⟩ => ⟨S8x2048, .f32⟩
  | .local .tc .vmem, ⟨4, _⟩ => ⟨S256x1, .i32⟩
  | .local .tc .vmem, ⟨5, _⟩ => ⟨S256x1, .i32⟩
  | .local .tc .vmem, ⟨6, _⟩ => ⟨S256x1, .i32⟩
  | .local .tc .vmem, ⟨7, _⟩ => ⟨S256x1, .i32⟩
  | .local .tc .vmem, ⟨8, _⟩ => ⟨S256x1, .f32⟩
  | .local .tc .vmem, ⟨9, _⟩ => ⟨S256x1, .f32⟩
  | .local .tc .vmem, ⟨10, _⟩ => ⟨S256x1, .f32⟩
  | .local .tc .vmem, ⟨11, _⟩ => ⟨S256x1, .f32⟩
  | .local .tc .vmem, ⟨12, _⟩ => ⟨S256x1, .f32⟩
  | .local .tc .vmem, ⟨13, _⟩ => ⟨S256x1, .f32⟩
  | .local .tc .vmem, ⟨14, _⟩ => ⟨S256x6400, .f32⟩
  | .local .tc .vmem, ⟨15, _⟩ => ⟨S256x6400, .f32⟩
  | .local .tc .vmem, ⟨16, _⟩ => ⟨S256x6400, .f32⟩
  | .local .tc .vmem, ⟨17, _⟩ => ⟨S256x6400, .f32⟩
  | .local .scVector .vmem, ⟨0, _⟩ => ⟨S64, .i32⟩
  | .local .scVector .vmem, ⟨1, _⟩ => ⟨S64, .i32⟩
  | .local .scVector .vmem, ⟨2, _⟩ => ⟨S64, .f32⟩
  | .local .scVector .vmem, ⟨3, _⟩ => ⟨S64, .f32⟩
  | .local .scVector .vmem, ⟨4, _⟩ => ⟨S64, .f32⟩
  | .local .scVector .vmem, ⟨5, _⟩ => ⟨S64, .f32⟩
  | .local .scVector .vmem, ⟨6, _⟩ => ⟨S64, .f32⟩
  | .local .scVector .vmem, ⟨7, _⟩ => ⟨S64, .f32⟩
  | .local .scVector .vmem, ⟨8, _⟩ => ⟨S64, .i32⟩
  | .local .scVector .vmem, ⟨9, _⟩ => ⟨S64, .i32⟩
  | .local .scVector .vmem, ⟨10, _⟩ => ⟨S64, .i32⟩
  | .local .scVector .vmem, ⟨11, _⟩ => ⟨S64, .f32⟩
  | .local .scVector .vmem, ⟨12, _⟩ => ⟨S64, .f32⟩
  | .local .scVector .vmem, ⟨13, _⟩ => ⟨S64, .f32⟩
  | .local .scVector .vmem, ⟨14, _⟩ => ⟨S64, .f32⟩
  | .local .scVector .vmem, ⟨15, _⟩ => ⟨S64, .f32⟩
  | .local .scVector .vmem, ⟨16, _⟩ => ⟨S64, .f32⟩
  | _, _ => ⟨S4x512x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v5_scv : Ref sig .scVector := ⟨.hbm, 9, rfl⟩
abbrev main_v6_scv : Ref sig .scVector := ⟨.hbm, 10, rfl⟩
abbrev main_v4_scv : Ref sig .scVector := ⟨.hbm, 8, rfl⟩
abbrev main_v7_scv : Ref sig .scVector := ⟨.hbm, 11, rfl⟩
abbrev main_v8_scv : Ref sig .scVector := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg5_1 : Ref sig .tc := ⟨.vmem, 15, rfl⟩
abbrev cc2_stg6_0 : Ref sig .tc := ⟨.vmem, 16, rfl⟩
abbrev cc2_stg6_1 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc1_scratch14 : Ref sig .scVector := ⟨.vmem, 14, rfl⟩
abbrev cc1_scratch15 : Ref sig .scVector := ⟨.vmem, 15, rfl⟩
abbrev cc1_scratch16 : Ref sig .scVector := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k1_off2 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![0, v2.toNat]
def k1_off3 (i : grid1.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![1, v2.toNat]
def k1_off4 (i : grid1.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![2, v2.toNat]
def k1_off5 (i : grid1.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![3, v2.toNat]
def k1_off6 (i : grid1.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![4, v2.toNat]
def k1_off7 (i : grid1.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![5, v2.toNat]
def k1_off8 (i : grid1.Coords) : Fin 2 → Nat :=
  let c0_i32_75 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![0, v2.toNat]
def k1_off9 (i : grid1.Coords) : Fin 2 → Nat :=
  let c1_i32_76 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![1, v2.toNat]
def k1_off10 (i : grid1.Coords) : Fin 2 → Nat :=
  let c2_i32_77 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![2, v2.toNat]
abbrev grid2 : Pipeline.Grid := ⟨2, ![8, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S256x6400 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S256x6400 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "u_log_u" => some (((6872377 / 2199023255552) * (Real.log (6872377 / 2199023255552)) : ℝ) : EReal)
  | _ => none
-- ==== ReferenceIdeal.lean ====
abbrev S4x512x32000 : Shape := ⟨3, ![4, 512, 32000]⟩
abbrev S4x512 : Shape := ⟨2, ![4, 512]⟩
abbrev S_ : Shape := ⟨0, ![]⟩
abbrev S2048 : Shape := ⟨1, ![2048]⟩
abbrev S2048x32000 : Shape := ⟨2, ![2048, 32000]⟩
abbrev S2048x1 : Shape := ⟨2, ![2048, 1]⟩
abbrev S2048x2 : Shape := ⟨2, ![2048, 2]⟩
abbrev S1 : Shape := ⟨1, ![1]⟩

abbrev nBuf : Space → Nat
  | .hbm => 89
  | .vmem => 0
  | .smem => 0
  | _ => 0

abbrev bufTy : (tb : Table) → Fin (tcTables nBuf tb) → BufTy
  | .hbm, ⟨0, _⟩ => ⟨S4x512x32000, .f32⟩
  | .hbm, ⟨1, _⟩ => ⟨S4x512, .i32⟩
  | .hbm, ⟨2, _⟩ => ⟨S4x512, .i32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S2048, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S2048, .f32⟩
  | .hbm, ⟨15, _⟩ => ⟨S2048, .i32⟩
  | .hbm, ⟨16, _⟩ => ⟨S_, .f32⟩
  | .hbm, ⟨17, _⟩ => ⟨S2048x32000, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S2048x1, .i32⟩
  | .hbm, ⟨35, _⟩ => ⟨S2048x2, .i32⟩
  | .hbm, ⟨36, _⟩ => ⟨S2048x32000, .f32⟩
  | .hbm, ⟨37, _⟩ => ⟨S2048x32000, .f32⟩
  | .hbm, ⟨38, _⟩ => ⟨S2048, .i32⟩
  | .hbm, ⟨39, _⟩ => ⟨S_, .f32⟩
  | .hbm, ⟨40, _⟩ => ⟨S2048x32000, .f32⟩
  | .hbm, ⟨41, _⟩ => ⟨S_, .f32⟩
  | .hbm, ⟨42, _⟩ => ⟨S2048x32000, .f32⟩
  | .hbm, ⟨43, _⟩ => ⟨S2048x32000, .f32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048x1, .i32⟩
  | .hbm, ⟨59, _⟩ => ⟨S2048x1, .i32⟩
  | .hbm, ⟨60, _⟩ => ⟨S2048x2, .i32⟩
  | .hbm, ⟨61, _⟩ => ⟨S2048x32000, .f32⟩
  | .hbm, ⟨62, _⟩ => ⟨S_, .i32⟩
  | .hbm, ⟨63, _⟩ => ⟨S1, .i32⟩
  | .hbm, ⟨64, _⟩ => ⟨S_, .f32⟩
  | .hbm, ⟨65, _⟩ => ⟨S2048, .f32⟩
  | .hbm, ⟨66, _⟩ => ⟨S2048x32000, .f32⟩
  | .hbm, ⟨67, _⟩ => ⟨S2048x32000, .f32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S2048x1, .i1⟩
  | .hbm, ⟨72, _⟩ => ⟨S_, .f32⟩
  | .hbm, ⟨73, _⟩ => ⟨S_, .f32⟩
  | .hbm, ⟨74, _⟩ => ⟨S2048x32000, .i1⟩
  | .hbm, ⟨75, _⟩ => ⟨S2048x32000, .f32⟩
  | .hbm, ⟨76, _⟩ => ⟨S2048x32000, .f32⟩
  | .hbm, ⟨77, _⟩ => ⟨S_, .f32⟩
  | .hbm, ⟨78, _⟩ => ⟨S2048x32000, .f32⟩
  | .hbm, ⟨79, _⟩ => ⟨S2048x32000, .i1⟩
  | .hbm, ⟨80, _⟩ => ⟨S2048x32000, .i1⟩
  | .hbm, ⟨81, _⟩ => ⟨S2048x32000, .i1⟩
  | .hbm, ⟨82, _⟩ => ⟨S2048x32000, .f32⟩
  | .hbm, ⟨83, _⟩ => ⟨S2048x32000, .f32⟩
  | .hbm, ⟨84, _⟩ => ⟨S_, .f32⟩
  | .hbm, ⟨85, _⟩ => ⟨S2048x32000, .f32⟩
  | .hbm, ⟨86, _⟩ => ⟨S2048x32000, .f32⟩
  | .hbm, ⟨87, _⟩ => ⟨S2048x32000, .f32⟩
  | .hbm, ⟨88, _⟩ => ⟨S2048x32000, .f32⟩
  | _, _ => ⟨S4x512x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_c_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_12 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== Proof.Reference.lean ====
/-
  The reference runs to its end from any launch memory with the arguments unchanged; it has no semaphore.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

noncomputable section

namespace Cert.Proof

open Idealize.ShloMosaic Idealize.SL.Sem

theorem frame_reference : Cert.quiescent_ReferenceIdeal := fun m g _ =>
  (θ_run _ _ _).mono (fun r h => ⟨fun c => (h c).2, sem_eq_zero_of_no_sems (by decide) r.2⟩) (Cert.ReferenceIdeal.Value.run m g)

end Cert.Proof

end
-- ==== Proof.Setup.lean ====
/-
  What the run of the program stands on: the launch of the SparseCore call as the library's theorems take it, the ghost
  state (the handshakes' rounds, the two pallas_calls' rounds, the transfers' counters), and what the handshakes of the
  SparseCore call carry. Each of the 32 tiles reads the four operands through a read share of the whole array and owns
  its own 64 columns of each of the three rows of the result; it brings those back at the one closed function `scOut`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Pipeline.Frame
public import Idealize.ShloMosaic.Lib.Pipeline.FrameBody
public import Idealize.ShloMosaic.Lib.Writes
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The operands of the SparseCore call -/

/-- The contents of the operands of the SparseCore call and of its result before the call. -/
structure Ops (F : FTy → Type) where
  t : S2048.Idx → Elt F .i32
  b : S2048.Idx → Elt F .i32
  tab : S8x2048.Idx → Elt F .f32
  p : S65536000.Idx → Elt F .f32
  o : S3x2048.Idx → Elt F .f32

abbrev tLoc (d : Dev nD) : Loc nD τ sig := (SparseCore.T d).loc main_v5
abbrev bLoc (d : Dev nD) : Loc nD τ sig := (SparseCore.T d).loc main_v6
abbrev tabLoc (d : Dev nD) : Loc nD τ sig := (SparseCore.T d).loc main_v4
abbrev pLoc (d : Dev nD) : Loc nD τ sig := (SparseCore.T d).loc main_v7
abbrev oLoc (d : Dev nD) : Loc nD τ sig := (SparseCore.T d).loc main_v8

/-- The one index of a row of `n` entries. -/
def at1 {n : ℕ} (k : Fin n) : (⟨1, ![n]⟩ : Shape).Idx := fun | 0 => k
/-- The index of a table. -/
def at2 {n m : ℕ} (i : Fin n) (j : Fin m) : (⟨2, ![n, m]⟩ : Shape).Idx := fun | 0 => i | 1 => j

/-- The column whose prediction the SparseCore call reads for row `r`: the biased target, the target, column zero. -/
def col (X : Ops F) (a : Fin 3) (r : Fin 2048) : BitVec 32 := match a with
  | 0 => X.b (at1 r)
  | 1 => X.t (at1 r)
  | 2 => 0#32

/-- The place of that prediction in the flat array. -/
def flat (X : Ops F) (a : Fin 3) (r : Fin 2048) : Fin 65536000 :=
  ⟨(r.val * 32000 + (col X a r).toNat) % 65536000, Nat.mod_lt _ (by decide)⟩

/-- What the SparseCore call leaves: the second table row of the pair less the first times the prediction. -/
def scOut (X : Ops F) : S3x2048.Idx → Elt F .f32 := fun i =>
  FloatOps.subf (φ := .f32) (X.tab (at2 ⟨2 * (i 0).val + 1, by have h : (i 0).val < 3 := (i 0).isLt; omega⟩ (i 1)))
    (FloatOps.mulf (φ := .f32) (X.tab (at2 ⟨2 * (i 0).val, by have h : (i 0).val < 3 := (i 0).isLt; omega⟩ (i 1))) (X.p (at1 (flat X (i 0) (i 1)))))

/-- Row `a` of the result, columns `64 w … 64 w + 63`. -/
def oPiece (a w : ℕ) : Finset S3x2048.Idx := Finset.univ.filter fun i => (i 0).val = a ∧ (i 1).val / 64 = w
/-- The columns a tile writes. -/
def oTile (w : ℕ) : Finset S3x2048.Idx := Finset.univ.filter fun i => (i 1).val / 64 = w
/-- The columns the tiles of one SparseCore write. -/
def oCore (c : ℕ) : Finset S3x2048.Idx := Finset.univ.filter fun i => (i 1).val / 64 % 2 = c

/-- One SparseCore's read share; one tile's. -/
def qC (c : Fin 2) : PosShare TreeShare := pieceOf fullShare 2 (by decide) c
def qT (c : Fin 2) (s : Fin 16) : PosShare TreeShare := pieceOf (qC c) 16 (by decide) s

/-! ## What the handshakes carry -/

variable (X : Dev nD → Ops F)

/-- The four operands, whole, at one share. -/
def inPts (d : Dev nD) (q : PosShare TreeShare) : sProp 𝕄 :=
  iprop((tLoc d ↦{q} (X d).t) ∗ (bLoc d ↦{q} (X d).b) ∗ (tabLoc d ↦{q} (X d).tab) ∗ (pLoc d ↦{q} (X d).p))

def st0 (d : Dev nD) (c : Fin 2) : sProp 𝕄 := iprop(inPts X d (qC c) ∗ oLoc d ↦[oCore c.val]{fullShare} (X d).o)
def dn0 (d : Dev nD) (c : Fin 2) : sProp 𝕄 := iprop(inPts X d (qC c) ∗ oLoc d ↦[oCore c.val]{fullShare} scOut (X d))
def go0 (d : Dev nD) (c : Fin 2) (s : Fin 16) : sProp 𝕄 :=
  iprop(inPts X d (qT c s) ∗ oLoc d ↦[oTile (2 * s.val + c.val)]{fullShare} (X d).o)
def td0 (d : Dev nD) (c : Fin 2) (s : Fin 16) : sProp 𝕄 :=
  iprop(inPts X d (qT c s) ∗ oLoc d ↦[oTile (2 * s.val + c.val)]{fullShare} scOut (X d))

instance (d : Dev nD) (q : PosShare TreeShare) : BI.Storable (upEmb : UEmb _ 𝕄) (inPts X d q) := by unfold inPts; infer_instance
instance (d : Dev nD) (c : Fin 2) : BI.Storable (upEmb : UEmb _ 𝕄) (st0 X d c) := by unfold st0; infer_instance
instance (d : Dev nD) (c : Fin 2) : BI.Storable (upEmb : UEmb _ 𝕄) (dn0 X d c) := by unfold dn0; infer_instance
instance (d : Dev nD) (c : Fin 2) (s : Fin 16) : BI.Storable (upEmb : UEmb _ 𝕄) (go0 X d c s) := by unfold go0; infer_instance
instance (d : Dev nD) (c : Fin 2) (s : Fin 16) : BI.Storable (upEmb : UEmb _ 𝕄) (td0 X d c s) := by unfold td0; infer_instance

/-- The call's handshakes: a SparseCore's share of the operands and its columns of the result, a tile's share and its. -/
def P : (K (F := F)).Pay (nD := nD) (Val := Elt F) (Name := ℕ) (U := UU) where
  st := fun q d c => match q with | 0 => st0 X d (Fin.cast nCore_zero c)
  dn := fun q d c => match q with | 0 => dn0 X d (Fin.cast nCore_zero c)
  go := fun q d c i => match q with | 0 => go0 X d (Fin.cast nCore_zero c) (Fin.cast nSub_zero i)
  td := fun q d c i => match q with | 0 => td0 X d (Fin.cast nCore_zero c) (Fin.cast nSub_zero i)
  x := fun _ _ => iprop(emp)

instance P_storable : (P (F := F) X).IsStorable where
  st q d c := match q with | 0 => (inferInstance : BI.Storable (upEmb : UEmb _ 𝕄) (st0 X d (Fin.cast nCore_zero c)))
  dn q d c := match q with | 0 => (inferInstance : BI.Storable (upEmb : UEmb _ 𝕄) (dn0 X d (Fin.cast nCore_zero c)))
  go q d c i := match q with | 0 => (inferInstance : BI.Storable (upEmb : UEmb _ 𝕄) (go0 X d (Fin.cast nCore_zero c) (Fin.cast nSub_zero i)))
  td q d c i := match q with | 0 => (inferInstance : BI.Storable (upEmb : UEmb _ 𝕄) (td0 X d (Fin.cast nCore_zero c) (Fin.cast nSub_zero i)))

/-- What the run asks of the operands: every target and biased target is a column. -/
def InVocab (X : Ops F) : Prop := (∀ j, (X.t j).toNat < 32000) ∧ ∀ j, (X.b j).toNat < 32000

end Cert.Proof.Run
-- ==== Proof.TileSetup.lean ====
/-
  The body of the SparseCore kernel at a symbolic tile: what each copy brings, the three index lists, the three indirect
  gathers over them, the arithmetic and the copies out.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The buffers as the kernel names them -/

abbrev tM : Memref sig .scVector .hbm S2048 .i32 := Memref.whole main_v5_scv
abbrev bM : Memref sig .scVector .hbm S2048 .i32 := Memref.whole main_v6_scv
abbrev tabM : Memref sig .scVector .hbm S8x2048 .f32 := Memref.whole main_v4_scv
abbrev pM : Memref sig .scVector .hbm S65536000 .f32 := Memref.whole main_v7_scv
abbrev oM : Memref sig .scVector .hbm S3x2048 .f32 := Memref.whole main_v8_scv
abbrev s0 : Memref sig .scVector .vmem S64 .i32 := Memref.whole cc1_scratch0
abbrev s1 : Memref sig .scVector .vmem S64 .i32 := Memref.whole cc1_scratch1
abbrev s2 : Memref sig .scVector .vmem S64 .f32 := Memref.whole cc1_scratch2
abbrev s3 : Memref sig .scVector .vmem S64 .f32 := Memref.whole cc1_scratch3
abbrev s4 : Memref sig .scVector .vmem S64 .f32 := Memref.whole cc1_scratch4
abbrev s5 : Memref sig .scVector .vmem S64 .f32 := Memref.whole cc1_scratch5
abbrev s6 : Memref sig .scVector .vmem S64 .f32 := Memref.whole cc1_scratch6
abbrev s7 : Memref sig .scVector .vmem S64 .f32 := Memref.whole cc1_scratch7
abbrev s8 : Memref sig .scVector .vmem S64 .i32 := Memref.whole cc1_scratch8
abbrev s9 : Memref sig .scVector .vmem S64 .i32 := Memref.whole cc1_scratch9
abbrev s10 : Memref sig .scVector .vmem S64 .i32 := Memref.whole cc1_scratch10
abbrev s11 : Memref sig .scVector .vmem S64 .f32 := Memref.whole cc1_scratch11
abbrev s12 : Memref sig .scVector .vmem S64 .f32 := Memref.whole cc1_scratch12
abbrev s13 : Memref sig .scVector .vmem S64 .f32 := Memref.whole cc1_scratch13
abbrev s14 : Memref sig .scVector .vmem S64 .f32 := Memref.whole cc1_scratch14
abbrev s15 : Memref sig .scVector .vmem S64 .f32 := Memref.whole cc1_scratch15
abbrev s16 : Memref sig .scVector .vmem S64 .f32 := Memref.whole cc1_scratch16

section Tile

variable (X : Dev nD → Ops F) (d : Dev nD) (L : grid1.Coords)

theorem bound_zero : grid1.bound 0 = 2 := rfl
theorem bound_one : grid1.bound 1 = 16 := rfl
abbrev cV (L : grid1.Coords) : Fin τ.nSC := (L 0).castLE hcore1
abbrev jV (L : grid1.Coords) : Fin τ.nSub := (L 1).castLE hsub1
abbrev cL (L : grid1.Coords) : Fin 2 := Fin.cast bound_zero (L 0)
abbrev jL (L : grid1.Coords) : Fin 16 := Fin.cast bound_one (L 1)
/-- The tile's number. -/
abbrev wL (L : grid1.Coords) : ℕ := 2 * (L 1).val + (L 0).val
abbrev thr (d : Dev nD) (L : grid1.Coords) : Thread nD τ := V d (cV L) (jV L)

/-- The tile's slice of the targets, of the biased targets, of a table row, of a row of the result. -/
abbrev tSl (L : grid1.Coords) : Memref sig .scVector .hbm S64 .i32 := (tM).slice (Rect.unit (s := S2048) (k1_off1 L) S64.size (k1_off1_inb L)) (fun _ => rfl)
abbrev bSl (L : grid1.Coords) : Memref sig .scVector .hbm S64 .i32 := (bM).slice (Rect.unit (s := S2048) (k1_off1 L) S64.size (k1_off1_inb L)) (fun _ => rfl)
abbrev tabSl0 (L : grid1.Coords) : Memref sig .scVector .hbm S64 .f32 := ((tabM).slice (Rect.unit (s := S8x2048) (k1_off2 L) S1x64.size (k1_off2_inb L)) (fun _ => rfl)).squeeze S64 squeezes_S1x64_S64
abbrev tabSl1 (L : grid1.Coords) : Memref sig .scVector .hbm S64 .f32 := ((tabM).slice (Rect.unit (s := S8x2048) (k1_off3 L) S1x64.size (k1_off3_inb L)) (fun _ => rfl)).squeeze S64 squeezes_S1x64_S64
abbrev tabSl2 (L : grid1.Coords) : Memref sig .scVector .hbm S64 .f32 := ((tabM).slice (Rect.unit (s := S8x2048) (k1_off4 L) S1x64.size (k1_off4_inb L)) (fun _ => rfl)).squeeze S64 squeezes_S1x64_S64
abbrev tabSl3 (L : grid1.Coords) : Memref sig .scVector .hbm S64 .f32 := ((tabM).slice (Rect.unit (s := S8x2048) (k1_off5 L) S1x64.size (k1_off5_inb L)) (fun _ => rfl)).squeeze S64 squeezes_S1x64_S64
abbrev tabSl4 (L : grid1.Coords) : Memref sig .scVector .hbm S64 .f32 := ((tabM).slice (Rect.unit (s := S8x2048) (k1_off6 L) S1x64.size (k1_off6_inb L)) (fun _ => rfl)).squeeze S64 squeezes_S1x64_S64
abbrev tabSl5 (L : grid1.Coords) : Memref sig .scVector .hbm S64 .f32 := ((tabM).slice (Rect.unit (s := S8x2048) (k1_off7 L) S1x64.size (k1_off7_inb L)) (fun _ => rfl)).squeeze S64 squeezes_S1x64_S64
abbrev oSl0 (L : grid1.Coords) : Memref sig .scVector .hbm S64 .f32 := ((oM).slice (Rect.unit (s := S3x2048) (k1_off8 L) S1x64.size (k1_off8_inb L)) (fun _ => rfl)).squeeze S64 squeezes_S1x64_S64
abbrev oSl1 (L : grid1.Coords) : Memref sig .scVector .hbm S64 .f32 := ((oM).slice (Rect.unit (s := S3x2048) (k1_off9 L) S1x64.size (k1_off9_inb L)) (fun _ => rfl)).squeeze S64 squeezes_S1x64_S64
abbrev oSl2 (L : grid1.Coords) : Memref sig .scVector .hbm S64 .f32 := ((oM).slice (Rect.unit (s := S3x2048) (k1_off10 L) S1x64.size (k1_off10_inb L)) (fun _ => rfl)).squeeze S64 squeezes_S1x64_S64

/-! ## The columns of the result a tile writes -/

theorem set_oSl0 : (oSl0 L).view.set = oPiece 0 (wL L) := by
  show (((oM).view.slice (Rect.unit (s := S3x2048) (k1_off8 L) S1x64.size (k1_off8_inb L))).reshape S64 squeezes_S1x64_S64.numel_eq).set = _
  rw [View.set_reshape, View.set_slice]
  refine Eq.trans (b := (Rect.unit (s := S3x2048) (k1_off8 L) S1x64.size (k1_off8_inb L)).set) Finset.map_refl ?_
  ext i
  rw [Rect.mem_set_unit, oPiece, Finset.mem_filter, k1_off8_eq]
  have h0 : (i 0).val < 3 := (i 0).isLt
  constructor
  · intro h
    have a := h 0; have b := h 1
    simp [wL] at a b ⊢
    omega
  · rintro ⟨-, ha, hb⟩ a
    match a with
    | 0 => simp [wL] at ha hb ⊢; omega
    | 1 => simp [wL] at ha hb ⊢; omega

theorem set_oSl1 : (oSl1 L).view.set = oPiece 1 (wL L) := by
  show (((oM).view.slice (Rect.unit (s := S3x2048) (k1_off9 L) S1x64.size (k1_off9_inb L))).reshape S64 squeezes_S1x64_S64.numel_eq).set = _
  rw [View.set_reshape, View.set_slice]
  refine Eq.trans (b := (Rect.unit (s := S3x2048) (k1_off9 L) S1x64.size (k1_off9_inb L)).set) Finset.map_refl ?_
  ext i
  rw [Rect.mem_set_unit, oPiece, Finset.mem_filter, k1_off9_eq]
  have h0 : (i 0).val < 3 := (i 0).isLt
  constructor
  · intro h
    have a := h 0; have b := h 1
    simp [wL] at a b ⊢
    omega
  · rintro ⟨-, ha, hb⟩ a
    match a with
    | 0 => simp [wL] at ha hb ⊢; omega
    | 1 => simp [wL] at ha hb ⊢; omega

theorem set_oSl2 : (oSl2 L).view.set = oPiece 2 (wL L) := by
  show (((oM).view.slice (Rect.unit (s := S3x2048) (k1_off10 L) S1x64.size (k1_off10_inb L))).reshape S64 squeezes_S1x64_S64.numel_eq).set = _
  rw [View.set_reshape, View.set_slice]
  refine Eq.trans (b := (Rect.unit (s := S3x2048) (k1_off10 L) S1x64.size (k1_off10_inb L)).set) Finset.map_refl ?_
  ext i
  rw [Rect.mem_set_unit, oPiece, Finset.mem_filter, k1_off10_eq]
  have h0 : (i 0).val < 3 := (i 0).isLt
  constructor
  · intro h
    have a := h 0; have b := h 1
    simp [wL] at a b ⊢
    omega
  · rintro ⟨-, ha, hb⟩ a
    match a with
    | 0 => simp [wL] at ha hb ⊢; omega
    | 1 => simp [wL] at ha hb ⊢; omega

/-- A tile's columns are its columns of the three rows. -/
theorem oTile_split (n : ℕ) (f : Buf (Elt F) (oLoc d)) :
    (oLoc d ↦[oTile n]{fullShare} f : sProp 𝕄)
      = iprop((oLoc d ↦[oPiece 0 n]{fullShare} f) ∗ (oLoc d ↦[oPiece 1 n]{fullShare} f) ∗ oLoc d ↦[oPiece 2 n]{fullShare} f) := by
  have e : oTile n = (Finset.univ : Finset (Fin 3)).biUnion fun a => oPiece a.val n := by
    ext i; simp only [oTile, oPiece, Finset.mem_filter, Finset.mem_univ, true_and, Finset.mem_biUnion]
    exact ⟨fun h => ⟨i 0, rfl, h⟩, fun ⟨_, _, h⟩ => h⟩
  rw [e, pointsTo_biUnion Finset.univ (ℓ := oLoc d) (fun a : Fin 3 => oPiece a.val n) (fun a _ b _ h => Finset.disjoint_left.2 fun i hi hj => by
    simp only [oPiece, Finset.mem_filter] at hi hj
    exact h (Fin.ext (hi.2.1.symm.trans hj.2.1)))]
  rw [show (Finset.univ : Finset (Fin 3)) = {0, 1, 2} by decide, SparseCore.bigSep_insert' (by decide), SparseCore.bigSep_insert' (by decide), bigSep_singleton]
  rfl

theorem pts_oSl0 (f : Buf (Elt F) (oLoc d)) :
    ((oSl0 L).view.loc (thr d L) ↦[(oSl0 L).view.set]{fullShare} f : sProp 𝕄) = oLoc d ↦[oPiece 0 (wL L)]{fullShare} f := by
  rw [set_oSl0]

theorem pts_oSl1 (f : Buf (Elt F) (oLoc d)) :
    ((oSl1 L).view.loc (thr d L) ↦[(oSl1 L).view.set]{fullShare} f : sProp 𝕄) = oLoc d ↦[oPiece 1 (wL L)]{fullShare} f := by
  rw [set_oSl1]

theorem pts_oSl2 (f : Buf (Elt F) (oLoc d)) :
    ((oSl2 L).view.loc (thr d L) ↦[(oSl2 L).view.set]{fullShare} f : sProp 𝕄) = oLoc d ↦[oPiece 2 (wL L)]{fullShare} f := by
  rw [set_oSl2]

theorem pts_tM (q : PosShare TreeShare) (f : Buf (Elt F) (tLoc d)) :
    ((tM).view.loc (thr d L) ↦{q} f : sProp 𝕄) = tLoc d ↦{q} f := rfl
theorem pts_bM (q : PosShare TreeShare) (f : Buf (Elt F) (bLoc d)) :
    ((bM).view.loc (thr d L) ↦{q} f : sProp 𝕄) = bLoc d ↦{q} f := rfl
theorem pts_tabM (q : PosShare TreeShare) (f : Buf (Elt F) (tabLoc d)) :
    ((tabM).view.loc (thr d L) ↦{q} f : sProp 𝕄) = tabLoc d ↦{q} f := rfl
theorem pts_pM (q : PosShare TreeShare) (f : Buf (Elt F) (pLoc d)) :
    ((pM).view.loc (thr d L) ↦{q} f : sProp 𝕄) = pLoc d ↦{q} f := rfl

/-! ## The tile's own buffers and semaphores -/

abbrev g0 (d : Dev nD) (L : grid1.Coords) : GSem nD τ sig := (thr d L, .dma cc1_scratch17.sem)
abbrev g1 (d : Dev nD) (L : grid1.Coords) : GSem nD τ sig := (thr d L, .dma cc1_scoped0.sem)
abbrev g2 (d : Dev nD) (L : grid1.Coords) : GSem nD τ sig := (thr d L, .dma cc1_scoped1.sem)
abbrev g3 (d : Dev nD) (L : grid1.Coords) : GSem nD τ sig := (thr d L, .dma cc1_scoped2.sem)
abbrev g4 (d : Dev nD) (L : grid1.Coords) : GSem nD τ sig := (thr d L, .dma cc1_scoped3.sem)
abbrev g5 (d : Dev nD) (L : grid1.Coords) : GSem nD τ sig := (thr d L, .dma cc1_scoped4.sem)
abbrev g6 (d : Dev nD) (L : grid1.Coords) : GSem nD τ sig := (thr d L, .dma cc1_scoped5.sem)
abbrev g7 (d : Dev nD) (L : grid1.Coords) : GSem nD τ sig := (thr d L, .dma cc1_scoped6.sem)
abbrev g8 (d : Dev nD) (L : grid1.Coords) : GSem nD τ sig := (thr d L, .dma cc1_scoped7.sem)
abbrev g9 (d : Dev nD) (L : grid1.Coords) : GSem nD τ sig := (thr d L, .dma cc1_scoped8.sem)
abbrev g10 (d : Dev nD) (L : grid1.Coords) : GSem nD τ sig := (thr d L, .dma cc1_scoped9.sem)
abbrev g11 (d : Dev nD) (L : grid1.Coords) : GSem nD τ sig := (thr d L, .dma cc1_scoped10.sem)

theorem gne {d : Dev nD} {L : grid1.Coords} {a b : DmaSem sig} (h : a ≠ b) : ((thr d L, .dma a) : GSem nD τ sig) ≠ (thr d L, .dma b) := by
  intro e; exact h (SemLoc.dma.inj (Prod.mk.inj e).2)

/-- The cells of the tile's own left over. -/
abbrev restG (d : Dev nD) (L : grid1.Coords) : Finset (GSem nD τ sig) := (((((((((((((ownCells (thr d L)).erase (g0 d L)).erase (g1 d L)).erase (g2 d L)).erase (g3 d L)).erase (g4 d L)).erase (g5 d L)).erase (g6 d L)).erase (g7 d L)).erase (g8 d L)).erase (g9 d L)).erase (g10 d L)).erase (g11 d L))
theorem ownSems0_V :
    (ownSems0 (thr d L) : sProp 𝕄)
      = iprop(semVal (g0 d L) 0 ∗ semVal (g1 d L) 0 ∗ semVal (g2 d L) 0 ∗ semVal (g3 d L) 0 ∗ semVal (g4 d L) 0 ∗ semVal (g5 d L) 0 ∗ semVal (g6 d L) 0 ∗ semVal (g7 d L) 0 ∗ semVal (g8 d L) 0 ∗ semVal (g9 d L) 0 ∗ semVal (g10 d L) 0 ∗ semVal (g11 d L) 0 ∗ bigSep (restG d L) fun g => semVal g 0) := by
  unfold SparseCore.Cfg.ownSems0
  rw [SparseCore.bigSep_erase' ((mem_ownCells (g := g0 d L)).mpr ⟨rfl, by show (SemLoc.dma cc1_scratch17.sem : SemLoc sig).isScoped .scVector = true; decide⟩),
    SparseCore.bigSep_erase' (Finset.mem_erase.mpr ⟨gne (by decide), (mem_ownCells (g := g1 d L)).mpr ⟨rfl, by show (SemLoc.dma cc1_scoped0.sem : SemLoc sig).isScoped .scVector = true; decide⟩⟩),
    SparseCore.bigSep_erase' (Finset.mem_erase.mpr ⟨gne (by decide), Finset.mem_erase.mpr ⟨gne (by decide), (mem_ownCells (g := g2 d L)).mpr ⟨rfl, by show (SemLoc.dma cc1_scoped1.sem : SemLoc sig).isScoped .scVector = true; decide⟩⟩⟩),
    SparseCore.bigSep_erase' (Finset.mem_erase.mpr ⟨gne (by decide), Finset.mem_erase.mpr ⟨gne (by decide), Finset.mem_erase.mpr ⟨gne (by decide), (mem_ownCells (g := g3 d L)).mpr ⟨rfl, by show (SemLoc.dma cc1_scoped2.sem : SemLoc sig).isScoped .scVector = true; decide⟩⟩⟩⟩),
    SparseCore.bigSep_erase' (Finset.mem_erase.mpr ⟨gne (by decide), Finset.mem_erase.mpr ⟨gne (by decide), Finset.mem_erase.mpr ⟨gne (by decide), Finset.mem_erase.mpr ⟨gne (by decide), (mem_ownCells (g := g4 d L)).mpr ⟨rfl, by show (SemLoc.dma cc1_scoped3.sem : SemLoc sig).isScoped .scVector = true; decide⟩⟩⟩⟩⟩),
    SparseCore.bigSep_erase' (Finset.mem_erase.mpr ⟨gne (by decide), Finset.mem_erase.mpr ⟨gne (by decide), Finset.mem_erase.mpr ⟨gne (by decide), Finset.mem_erase.mpr ⟨gne (by decide), Finset.mem_erase.mpr ⟨gne (by decide), (mem_ownCells (g := g5 d L)).mpr ⟨rfl, by show (SemLoc.dma cc1_scoped4.sem : SemLoc sig).isScoped .scVector = true; decide⟩⟩⟩⟩⟩⟩),
    SparseCore.bigSep_erase' (Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), (mem_ownCells (g := g6 d L)).mpr ⟨rfl, by show (SemLoc.dma cc1_scoped5.sem : SemLoc sig).isScoped .scVector = true; decide⟩⟩⟩⟩⟩⟩⟩),
    SparseCore.bigSep_erase' (Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), (mem_ownCells (g := g7 d L)).mpr ⟨rfl, by show (SemLoc.dma cc1_scoped6.sem : SemLoc sig).isScoped .scVector = true; decide⟩⟩⟩⟩⟩⟩⟩⟩),
    SparseCore.bigSep_erase' (Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), (mem_ownCells (g := g8 d L)).mpr ⟨rfl, by show (SemLoc.dma cc1_scoped7.sem : SemLoc sig).isScoped .scVector = true; decide⟩⟩⟩⟩⟩⟩⟩⟩⟩),
    SparseCore.bigSep_erase' (Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), (mem_ownCells (g := g9 d L)).mpr ⟨rfl, by show (SemLoc.dma cc1_scoped8.sem : SemLoc sig).isScoped .scVector = true; decide⟩⟩⟩⟩⟩⟩⟩⟩⟩⟩),
    SparseCore.bigSep_erase' (Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), (mem_ownCells (g := g10 d L)).mpr ⟨rfl, by show (SemLoc.dma cc1_scoped9.sem : SemLoc sig).isScoped .scVector = true; decide⟩⟩⟩⟩⟩⟩⟩⟩⟩⟩⟩),
    SparseCore.bigSep_erase' (Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), Finset.mem_erase.mpr ⟨gne (by decide), (mem_ownCells (g := g11 d L)).mpr ⟨rfl, by show (SemLoc.dma cc1_scoped10.sem : SemLoc sig).isScoped .scVector = true; decide⟩⟩⟩⟩⟩⟩⟩⟩⟩⟩⟩⟩)]

theorem rne {c : Fin τ.nSC} {i : Fin τ.nSub} {a b : Ref sig .scVector} (h : a ≠ b) :
    (Proc.scVector c i : Proc τ).devRef a ≠ (Proc.scVector c i : Proc τ).devRef b := fun e => h (Proc.devRef_injective _ e)

/-- The tile's own buffers left over. -/
abbrev restB (L : grid1.Coords) : Finset (DevRef τ sig) := ((((((((((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8)).erase ((Proc.scVector (cV L) (jV L)).devRef cc1_scratch9)).erase ((Proc.scVector (cV L) (jV L)).devRef cc1_scratch10)).erase ((Proc.scVector (cV L) (jV L)).devRef cc1_scratch11)).erase ((Proc.scVector (cV L) (jV L)).devRef cc1_scratch12)).erase ((Proc.scVector (cV L) (jV L)).devRef cc1_scratch13)).erase ((Proc.scVector (cV L) (jV L)).devRef cc1_scratch14)).erase ((Proc.scVector (cV L) (jV L)).devRef cc1_scratch15)).erase ((Proc.scVector (cV L) (jV L)).devRef cc1_scratch16))
set_option maxHeartbeats 1000000 in
theorem ownBufs_V :
    (ownBufs (thr d L) : sProp 𝕄)
      = iprop((∃ f, (s0).view.loc (thr d L) ↦{fullShare} f) ∗ (∃ f, (s1).view.loc (thr d L) ↦{fullShare} f) ∗ (∃ f, (s2).view.loc (thr d L) ↦{fullShare} f) ∗ (∃ f, (s3).view.loc (thr d L) ↦{fullShare} f) ∗ (∃ f, (s4).view.loc (thr d L) ↦{fullShare} f) ∗ (∃ f, (s5).view.loc (thr d L) ↦{fullShare} f) ∗ (∃ f, (s6).view.loc (thr d L) ↦{fullShare} f) ∗ (∃ f, (s7).view.loc (thr d L) ↦{fullShare} f) ∗ (∃ f, (s8).view.loc (thr d L) ↦{fullShare} f) ∗ (∃ f, (s9).view.loc (thr d L) ↦{fullShare} f) ∗ (∃ f, (s10).view.loc (thr d L) ↦{fullShare} f) ∗ (∃ f, (s11).view.loc (thr d L) ↦{fullShare} f) ∗ (∃ f, (s12).view.loc (thr d L) ↦{fullShare} f) ∗ (∃ f, (s13).view.loc (thr d L) ↦{fullShare} f) ∗ (∃ f, (s14).view.loc (thr d L) ↦{fullShare} f) ∗ (∃ f, (s15).view.loc (thr d L) ↦{fullShare} f) ∗ (∃ f, (s16).view.loc (thr d L) ↦{fullShare} f)
          ∗ bigSep (restB L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨rne (by decide), SparseCore.Cfg.mem_ownRefs_of_owner (p := Proc.scVector (cV L) (jV L)) (b := (Proc.scVector (cV L) (jV L)).devRef cc1_scratch1) rfl⟩),
    SparseCore.bigSep_erase' (Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch5) rfl⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch6) rfl⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch7) rfl⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch8) rfl⟩⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch9) rfl⟩⟩⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch10) rfl⟩⟩⟩⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch11) rfl⟩⟩⟩⟩⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch12) rfl⟩⟩⟩⟩⟩⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch13) rfl⟩⟩⟩⟩⟩⟩⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch14) rfl⟩⟩⟩⟩⟩⟩⟩⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch15) rfl⟩⟩⟩⟩⟩⟩⟩⟩⟩⟩⟩⟩⟩⟩⟩),
    SparseCore.bigSep_erase' (Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), Finset.mem_erase.mpr ⟨rne (by decide), SparseCore.Cfg.mem_ownRefs_of_owner (p := Proc.scVector (cV L) (jV L)) (b := (Proc.scVector (cV L) (jV L)).devRef cc1_scratch16) rfl⟩⟩⟩⟩⟩⟩⟩⟩⟩⟩⟩⟩⟩⟩⟩⟩)]

end Tile

end Cert.Proof.Run
-- ==== Proof.TileValue.lean ====
/-
  The values inside one tile: the slices it copies, the index lists it stores in four pieces of sixteen, the rows its
  gathers bring, and the three rows it copies out.
-/
module

public import proofs.«01_k».proof.Proof.TileSetup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

omit [FloatOps F] [Named F] in
/-- A buffer held at one contents is held at contents equal to it. -/
theorem pts_eq {ℓ : Loc nD τ sig} {I : Finset (Idx ℓ)} {q : PosShare TreeShare} {f g : Buf (Elt F) ℓ} (e : f = g) : (ℓ ↦[I]{q} f : sProp 𝕄) ⊢ ℓ ↦[I]{q} g := Entails.of_eq (e ▸ rfl)

variable (X : Ops F) (d : Dev nD) (L : grid1.Coords)

theorem wL_lt : wL L < 32 := by
  have h0 : (L 0).val < 2 := (L 0).isLt
  have h1 : (L 1).val < 16 := (L 1).isLt
  unfold wL; omega

/-- The row of the problem a tile's entry stands for. -/
def row (L : grid1.Coords) (j : Fin 64) : Fin 2048 := ⟨64 * wL L + j.val, by have := wL_lt L; have := j.isLt; omega⟩

/-! ## The slices -/

theorem emb_tSl (x : S64.Idx) : (tSl L).view.emb x = at1 (row L (x 0)) := by
  funext a
  match a with
  | 0 =>
    apply Fin.ext
    refine (ValueKit.rect_emb_unit_val (s := S2048) (k1_off1 L) S64.size (k1_off1_inb L) x 0).trans ?_
    refine (congrArg (· + (x 0).val) (congrFun (k1_off1_eq L) 0)).trans ?_
    show 128 * (L 1).val + 64 * (L 0).val + (x 0).val = 64 * (2 * (L 1).val + (L 0).val) + (x 0).val
    omega
theorem read_tSl (f : S2048.Idx → Elt F .i32) : (tSl L).view.read (Elt F) f = fun x => f (at1 (row L (x 0))) :=
  funext fun x => (View.read_apply _ _).trans ((cast_eq _ _).trans (congrArg f (emb_tSl L x)))

theorem emb_bSl (x : S64.Idx) : (bSl L).view.emb x = at1 (row L (x 0)) := by
  funext a
  match a with
  | 0 =>
    apply Fin.ext
    refine (ValueKit.rect_emb_unit_val (s := S2048) (k1_off1 L) S64.size (k1_off1_inb L) x 0).trans ?_
    refine (congrArg (· + (x 0).val) (congrFun (k1_off1_eq L) 0)).trans ?_
    show 128 * (L 1).val + 64 * (L 0).val + (x 0).val = 64 * (2 * (L 1).val + (L 0).val) + (x 0).val
    omega
theorem read_bSl (f : S2048.Idx → Elt F .i32) : (bSl L).view.read (Elt F) f = fun x => f (at1 (row L (x 0))) :=
  funext fun x => (View.read_apply _ _).trans ((cast_eq _ _).trans (congrArg f (emb_bSl L x)))

theorem emb_tabSl0 (x : S64.Idx) : (tabSl0 L).view.emb x = at2 0 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (tabSl0 L).view.emb x = (Rect.unit (s := S8x2048) (k1_off2 L) S1x64.size (k1_off2_inb L)).emb (at2 0 (x 0) : S1x64.Idx) :=
    congrArg (Rect.unit (s := S8x2048) (k1_off2 L) S1x64.size (k1_off2_inb L)).emb e
  rw [e']
  funext a
  apply Fin.ext
  refine (ValueKit.rect_emb_unit_val (s := S8x2048) (k1_off2 L) S1x64.size (k1_off2_inb L) (at2 0 (x 0) : S1x64.Idx) a).trans ?_
  match a with
  | 0 =>
    refine (congrArg (· + ((at2 0 (x 0) : S1x64.Idx) 0).val) (congrFun (k1_off2_eq L) 0)).trans ?_
    simp [at2]
  | 1 =>
    refine (congrArg (· + ((at2 0 (x 0) : S1x64.Idx) 1).val) (congrFun (k1_off2_eq L) 1)).trans ?_
    simp [at2, row, wL]; omega

theorem read_tabSl0 (f : S8x2048.Idx → Elt F .f32) : (tabSl0 L).view.read (Elt F) f = fun x => f (at2 0 (row L (x 0))) :=
  funext fun x => (View.read_apply _ _).trans ((cast_eq _ _).trans (congrArg f (emb_tabSl0 L x)))

theorem emb_tabSl1 (x : S64.Idx) : (tabSl1 L).view.emb x = at2 1 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (tabSl1 L).view.emb x = (Rect.unit (s := S8x2048) (k1_off3 L) S1x64.size (k1_off3_inb L)).emb (at2 0 (x 0) : S1x64.Idx) :=
    congrArg (Rect.unit (s := S8x2048) (k1_off3 L) S1x64.size (k1_off3_inb L)).emb e
  rw [e']
  funext a
  apply Fin.ext
  refine (ValueKit.rect_emb_unit_val (s := S8x2048) (k1_off3 L) S1x64.size (k1_off3_inb L) (at2 0 (x 0) : S1x64.Idx) a).trans ?_
  match a with
  | 0 =>
    refine (congrArg (· + ((at2 0 (x 0) : S1x64.Idx) 0).val) (congrFun (k1_off3_eq L) 0)).trans ?_
    simp [at2]
  | 1 =>
    refine (congrArg (· + ((at2 0 (x 0) : S1x64.Idx) 1).val) (congrFun (k1_off3_eq L) 1)).trans ?_
    simp [at2, row, wL]; omega

theorem read_tabSl1 (f : S8x2048.Idx → Elt F .f32) : (tabSl1 L).view.read (Elt F) f = fun x => f (at2 1 (row L (x 0))) :=
  funext fun x => (View.read_apply _ _).trans ((cast_eq _ _).trans (congrArg f (emb_tabSl1 L x)))

theorem emb_tabSl2 (x : S64.Idx) : (tabSl2 L).view.emb x = at2 2 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (tabSl2 L).view.emb x = (Rect.unit (s := S8x2048) (k1_off4 L) S1x64.size (k1_off4_inb L)).emb (at2 0 (x 0) : S1x64.Idx) :=
    congrArg (Rect.unit (s := S8x2048) (k1_off4 L) S1x64.size (k1_off4_inb L)).emb e
  rw [e']
  funext a
  apply Fin.ext
  refine (ValueKit.rect_emb_unit_val (s := S8x2048) (k1_off4 L) S1x64.size (k1_off4_inb L) (at2 0 (x 0) : S1x64.Idx) a).trans ?_
  match a with
  | 0 =>
    refine (congrArg (· + ((at2 0 (x 0) : S1x64.Idx) 0).val) (congrFun (k1_off4_eq L) 0)).trans ?_
    simp [at2]
  | 1 =>
    refine (congrArg (· + ((at2 0 (x 0) : S1x64.Idx) 1).val) (congrFun (k1_off4_eq L) 1)).trans ?_
    simp [at2, row, wL]; omega

theorem read_tabSl2 (f : S8x2048.Idx → Elt F .f32) : (tabSl2 L).view.read (Elt F) f = fun x => f (at2 2 (row L (x 0))) :=
  funext fun x => (View.read_apply _ _).trans ((cast_eq _ _).trans (congrArg f (emb_tabSl2 L x)))

theorem emb_tabSl3 (x : S64.Idx) : (tabSl3 L).view.emb x = at2 3 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (tabSl3 L).view.emb x = (Rect.unit (s := S8x2048) (k1_off5 L) S1x64.size (k1_off5_inb L)).emb (at2 0 (x 0) : S1x64.Idx) :=
    congrArg (Rect.unit (s := S8x2048) (k1_off5 L) S1x64.size (k1_off5_inb L)).emb e
  rw [e']
  funext a
  apply Fin.ext
  refine (ValueKit.rect_emb_unit_val (s := S8x2048) (k1_off5 L) S1x64.size (k1_off5_inb L) (at2 0 (x 0) : S1x64.Idx) a).trans ?_
  match a with
  | 0 =>
    refine (congrArg (· + ((at2 0 (x 0) : S1x64.Idx) 0).val) (congrFun (k1_off5_eq L) 0)).trans ?_
    simp [at2]
  | 1 =>
    refine (congrArg (· + ((at2 0 (x 0) : S1x64.Idx) 1).val) (congrFun (k1_off5_eq L) 1)).trans ?_
    simp [at2, row, wL]; omega

theorem read_tabSl3 (f : S8x2048.Idx → Elt F .f32) : (tabSl3 L).view.read (Elt F) f = fun x => f (at2 3 (row L (x 0))) :=
  funext fun x => (View.read_apply _ _).trans ((cast_eq _ _).trans (congrArg f (emb_tabSl3 L x)))

theorem emb_tabSl4 (x : S64.Idx) : (tabSl4 L).view.emb x = at2 4 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (tabSl4 L).view.emb x = (Rect.unit (s := S8x2048) (k1_off6 L) S1x64.size (k1_off6_inb L)).emb (at2 0 (x 0) : S1x64.Idx) :=
    congrArg (Rect.unit (s := S8x2048) (k1_off6 L) S1x64.size (k1_off6_inb L)).emb e
  rw [e']
  funext a
  apply Fin.ext
  refine (ValueKit.rect_emb_unit_val (s := S8x2048) (k1_off6 L) S1x64.size (k1_off6_inb L) (at2 0 (x 0) : S1x64.Idx) a).trans ?_
  match a with
  | 0 =>
    refine (congrArg (· + ((at2 0 (x 0) : S1x64.Idx) 0).val) (congrFun (k1_off6_eq L) 0)).trans ?_
    simp [at2]
  | 1 =>
    refine (congrArg (· + ((at2 0 (x 0) : S1x64.Idx) 1).val) (congrFun (k1_off6_eq L) 1)).trans ?_
    simp [at2, row, wL]; omega

theorem read_tabSl4 (f : S8x2048.Idx → Elt F .f32) : (tabSl4 L).view.read (Elt F) f = fun x => f (at2 4 (row L (x 0))) :=
  funext fun x => (View.read_apply _ _).trans ((cast_eq _ _).trans (congrArg f (emb_tabSl4 L x)))

theorem emb_tabSl5 (x : S64.Idx) : (tabSl5 L).view.emb x = at2 5 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (tabSl5 L).view.emb x = (Rect.unit (s := S8x2048) (k1_off7 L) S1x64.size (k1_off7_inb L)).emb (at2 0 (x 0) : S1x64.Idx) :=
    congrArg (Rect.unit (s := S8x2048) (k1_off7 L) S1x64.size (k1_off7_inb L)).emb e
  rw [e']
  funext a
  apply Fin.ext
  refine (ValueKit.rect_emb_unit_val (s := S8x2048) (k1_off7 L) S1x64.size (k1_off7_inb L) (at2 0 (x 0) : S1x64.Idx) a).trans ?_
  match a with
  | 0 =>
    refine (congrArg (· + ((at2 0 (x 0) : S1x64.Idx) 0).val) (congrFun (k1_off7_eq L) 0)).trans ?_
    simp [at2]
  | 1 =>
    refine (congrArg (· + ((at2 0 (x 0) : S1x64.Idx) 1).val) (congrFun (k1_off7_eq L) 1)).trans ?_
    simp [at2, row, wL]; omega

theorem read_tabSl5 (f : S8x2048.Idx → Elt F .f32) : (tabSl5 L).view.read (Elt F) f = fun x => f (at2 5 (row L (x 0))) :=
  funext fun x => (View.read_apply _ _).trans ((cast_eq _ _).trans (congrArg f (emb_tabSl5 L x)))

theorem emb_oSl0 (x : S64.Idx) : (oSl0 L).view.emb x = at2 0 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (oSl0 L).view.emb x = (Rect.unit (s := S3x2048) (k1_off8 L) S1x64.size (k1_off8_inb L)).emb (at2 0 (x 0) : S1x64.Idx) :=
    congrArg (Rect.unit (s := S3x2048) (k1_off8 L) S1x64.size (k1_off8_inb L)).emb e
  rw [e']
  funext a
  apply Fin.ext
  refine (ValueKit.rect_emb_unit_val (s := S3x2048) (k1_off8 L) S1x64.size (k1_off8_inb L) (at2 0 (x 0) : S1x64.Idx) a).trans ?_
  match a with
  | 0 =>
    refine (congrArg (· + ((at2 0 (x 0) : S1x64.Idx) 0).val) (congrFun (k1_off8_eq L) 0)).trans ?_
    simp [at2]
  | 1 =>
    refine (congrArg (· + ((at2 0 (x 0) : S1x64.Idx) 1).val) (congrFun (k1_off8_eq L) 1)).trans ?_
    simp [at2, row, wL]; omega

theorem emb_oSl1 (x : S64.Idx) : (oSl1 L).view.emb x = at2 1 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (oSl1 L).view.emb x = (Rect.unit (s := S3x2048) (k1_off9 L) S1x64.size (k1_off9_inb L)).emb (at2 0 (x 0) : S1x64.Idx) :=
    congrArg (Rect.unit (s := S3x2048) (k1_off9 L) S1x64.size (k1_off9_inb L)).emb e
  rw [e']
  funext a
  apply Fin.ext
  refine (ValueKit.rect_emb_unit_val (s := S3x2048) (k1_off9 L) S1x64.size (k1_off9_inb L) (at2 0 (x 0) : S1x64.Idx) a).trans ?_
  match a with
  | 0 =>
    refine (congrArg (· + ((at2 0 (x 0) : S1x64.Idx) 0).val) (congrFun (k1_off9_eq L) 0)).trans ?_
    simp [at2]
  | 1 =>
    refine (congrArg (· + ((at2 0 (x 0) : S1x64.Idx) 1).val) (congrFun (k1_off9_eq L) 1)).trans ?_
    simp [at2, row, wL]; omega

theorem emb_oSl2 (x : S64.Idx) : (oSl2 L).view.emb x = at2 2 (row L (x 0)) := by
  have e : Shape.reshapeEquiv squeezes_S1x64_S64.numel_eq x = (at2 0 (x 0) : S1x64.Idx) :=
    Shape.reshapeEquiv_eq_of_rowMajor _ (by rw [Shape.rowMajor_val_two, Shape.rowMajor_val_one]; simp [at2])
  have e' : (oSl2 L).view.emb x = (Rect.unit (s := S3x2048) (k1_off10 L) S1x64.size (k1_off10_inb L)).emb (at2 0 (x 0) : S1x64.Idx) :=
    congrArg (Rect.unit (s := S3x2048) (k1_off10 L) S1x64.size (k1_off10_inb L)).emb e
  rw [e']
  funext a
  apply Fin.ext
  refine (ValueKit.rect_emb_unit_val (s := S3x2048) (k1_off10 L) S1x64.size (k1_off10_inb L) (at2 0 (x 0) : S1x64.Idx) a).trans ?_
  match a with
  | 0 =>
    refine (congrArg (· + ((at2 0 (x 0) : S1x64.Idx) 0).val) (congrFun (k1_off10_eq L) 0)).trans ?_
    simp [at2]
  | 1 =>
    refine (congrArg (· + ((at2 0 (x 0) : S1x64.Idx) 1).val) (congrFun (k1_off10_eq L) 1)).trans ?_
    simp [at2, row, wL]; omega

/-! ## A row stored in four pieces of sixteen -/

theorem emb16 (o : ℕ) (inb : ∀ a, (![o] : Fin 1 → ℕ) a + S16.size a ≤ S64.size a) (h : o ≤ 48) (x : S16.Idx) :
    (Rect.unit (s := S64) ![o] S16.size inb).emb x = (at1 ⟨o + (x 0).val, by have hx : (x 0).val < 16 := (x 0).isLt; omega⟩ : S64.Idx) := by
  funext a
  match a with
  | 0 => exact Fin.ext (ValueKit.rect_emb_unit_val (s := S64) ![o] S16.size inb x 0)

theorem read4 {e : EltTy} (m : Memref sig .scVector .vmem S64 e) (f : m.view.ty.Contents (Elt F)) (G : S64.Idx → Elt F e) (p0 p1 p2 p3 : S16.Idx → Elt F e)
    (h0 : ∀ x, p0 x = G ((Rect.unit (s := S64) ![0] S16.size inb_S64_S16_0).emb x)) (h1 : ∀ x, p1 x = G ((Rect.unit (s := S64) ![16] S16.size inb_S64_S16_16).emb x))
    (h2 : ∀ x, p2 x = G ((Rect.unit (s := S64) ![32] S16.size inb_S64_S16_32).emb x)) (h3 : ∀ x, p3 x = G ((Rect.unit (s := S64) ![48] S16.size inb_S64_S16_48).emb x)) :
    m.view.read (Elt F) (m.view.writes (Elt F) f [⟨Rect.unit (s := S64) ![48] S16.size inb_S64_S16_48, p3⟩, ⟨Rect.unit (s := S64) ![32] S16.size inb_S64_S16_32, p2⟩,
      ⟨Rect.unit (s := S64) ![16] S16.size inb_S64_S16_16, p1⟩, ⟨Rect.unit (s := S64) ![0] S16.size inb_S64_S16_0, p0⟩]) = G := by
  funext y
  refine View.read_writes_apply_of_pieces _ _ G _ ?_ y ?_
  · intro p hp
    simp only [List.mem_cons, List.not_mem_nil, or_false] at hp
    rcases hp with rfl | rfl | rfl | rfl
    · exact h3
    · exact h2
    · exact h1
    · exact h0
  · have hy : (y 0).val < 64 := (y 0).isLt
    have mem : ∀ (o : ℕ) (inb : ∀ a, (![o] : Fin 1 → ℕ) a + S16.size a ≤ S64.size a), o ≤ (y 0).val → (y 0).val < o + 16 → y ∈ (Rect.unit (s := S64) ![o] S16.size inb).set := by
      intro o inb h h'
      rw [Rect.mem_set_unit]; intro a
      match a with
      | 0 => exact ⟨h, h'⟩
    by_cases c3 : 48 ≤ (y 0).val
    · exact ⟨_, .head _, mem 48 inb_S64_S16_48 c3 (by omega)⟩
    by_cases c2 : 32 ≤ (y 0).val
    · exact ⟨_, .tail _ (.head _), mem 32 inb_S64_S16_32 c2 (by omega)⟩
    by_cases c1 : 16 ≤ (y 0).val
    · exact ⟨_, .tail _ (.tail _ (.head _)), mem 16 inb_S64_S16_16 c1 (by omega)⟩
    · exact ⟨_, .tail _ (.tail _ (.tail _ (.head _))), mem 0 inb_S64_S16_0 (by omega) (by omega)⟩

/-! ## The index lists -/

/-- The tile's list of places: row times row length, plus the column. -/
def lst (a : Fin 3) : S64.Idx → Elt F .i32 := fun y => BitVec.ofNat 32 ((row L (y 0)).val * 32000) + col X a (row L (y 0))

/-- The tile's first row, as a word. -/
theorem base_word : Scalar.muli (Scalar.addi (Scalar.muli (BitVec.ofNat 32 (L 1).val) 2#32) (BitVec.ofNat 32 (L 0).val)) 64#32 = BitVec.ofNat 32 (64 * wL L) := by
  show (BitVec.ofNat 32 (L 1).val * 2#32 + BitVec.ofNat 32 (L 0).val) * 64#32 = _
  rw [← BitVec.ofNat_mul, ← BitVec.ofNat_add, ← BitVec.ofNat_mul]
  congr 1; unfold wL; ring

theorem place_word (o x : ℕ) : (BitVec.ofNat 32 (64 * wL L) + BitVec.ofNat 32 o + BitVec.ofNat 32 x) * 32000#32
    = BitVec.ofNat 32 ((64 * wL L + (o + x)) * 32000) := by
  rw [← BitVec.ofNat_add, ← BitVec.ofNat_add, ← BitVec.ofNat_mul, Nat.add_assoc]

theorem col_toNat_lt (hX : InVocab X) (a : Fin 3) (r : Fin 2048) : (col X a r).toNat < 32000 := by
  match a with
  | 0 => exact hX.2 _
  | 1 => exact hX.1 _
  | 2 => simp [col]

theorem lst_toNat (hX : InVocab X) (a : Fin 3) (y : S64.Idx) : (lst X L a y : BitVec 32).toNat = (flat X a (row L (y 0))).val := by
  have h := col_toNat_lt X hX a (row L (y 0))
  have hr := (row L (y 0)).isLt
  show (BitVec.ofNat 32 ((row L (y 0)).val * 32000) + col X a (row L (y 0))).toNat = ((row L (y 0)).val * 32000 + (col X a (row L (y 0))).toNat) % 65536000
  rw [BitVec.toNat_add, BitVec.toNat_ofNat, Nat.mod_eq_of_lt (a := (row L (y 0)).val * 32000) (by omega), Nat.mod_eq_of_lt (by omega), Nat.mod_eq_of_lt (by omega)]

/-! ## The gathered rows -/

/-- What a gather brings the tile. -/
def prow (a : Fin 3) : S64.Idx → Elt F .f32 := fun y => X.p (at1 (flat X a (row L (y 0))))

/-- What the tile computes. -/
def vrow (a : Fin 3) : S64.Idx → Elt F .f32 := fun y => scOut X (at2 a (row L (y 0)))

theorem gather_eq (hX : InVocab X) (a : Fin 3) (hn : S64.numel = S64.size gathers_S65536000_S64.axis')
    (hin : ∀ x, (lst X L a x : BitVec 32).toNat < S65536000.size gathers_S65536000_S64.axis) :
    SparseCore.gatherPayload (F := F) (e := .f32) gathers_S65536000_S64 (((pM).slice (Rect.unit (s := S65536000) ![0] S65536000.size inb_S65536000_S65536000_0) (fun _ => rfl)).view.read (Elt F) X.p)
      (SparseCore.rows (F := F) (lst X L a) hn hin) = prow X L a := by
  funext y
  refine (View.read_apply _ _).trans ((cast_eq _ _).trans (congrArg X.p ?_))
  funext b
  match b with
  | 0 =>
    apply Fin.ext
    refine (ValueKit.rect_emb_unit_val (s := S65536000) ![0] S65536000.size inb_S65536000_S65536000_0 _ 0).trans ?_
    have e : S64.rowMajor.symm ((y gathers_S65536000_S64.axis').cast hn.symm) = y := by
      apply S64.rowMajor.injective; apply Fin.ext
      rw [Equiv.apply_symm_apply, Shape.rowMajor_val_one]; rfl
    have e2 : (gathers_S65536000_S64.idx (SparseCore.rows (F := F) (lst X L a) hn hin) y 0).val = (lst X L a y : BitVec 32).toNat := by
      conv_rhs => rw [← e]
      rfl
    rw [lst_toNat X L hX] at e2
    exact (Nat.zero_add _).trans e2

end Tile

end Cert.Proof.Run
-- ==== Proof.TileLists.lean ====
/-
  The three index lists a tile builds and the three rows it computes, each stored in four pieces of sixteen, as whole rows.
-/
module

public import proofs.«01_k».proof.Proof.TileValue
public import Idealize.ShloMosaic.Lib.Pipeline.Value

@[expose] public section

noncomputable section

namespace Cert.Proof.Run

open Cert.KernelIdeal Cert.KernelIdeal.Gen

open Idealize.ShloMosaic
open Idealize.ShloMosaic.SparseCore.Cfg (HIx)
open Idealize.SL Idealize.SL.RA Idealize.SL.BI
open scoped Idealize.SL.BI

variable {F : FTy → Type} [FloatOps F] [Named F]

local notation "𝕄" => MT nD τ sig (HIx 1) (Elt F) ℕ UU ℕ

section Tile

variable (X : Ops F) (L : grid1.Coords)

/-- Lane `x` of the piece at `o`: the row's place in the flat array. -/
theorem word_piece (o : ℕ) (inb : ∀ a, (![o] : Fin 1 → ℕ) a + S16.size a ≤ S64.size a) (h : o ≤ 48) (v : BitVec 32)
    (hv : v = BitVec.ofNat 32 (64 * wL L) + BitVec.ofNat 32 o) (x : S16.Idx) :
    (v + BitVec.ofNat 32 (0 * 16 + (x 0).val)) * 32000#32
      = BitVec.ofNat 32 ((row L ((Rect.unit (s := S64) ![o] S16.size inb).emb x 0)).val * 32000) := by
  rw [hv, Nat.zero_mul, Nat.zero_add, place_word, emb16 o inb h x]; rfl

theorem lst0 (f : (s8).view.ty.Contents (Elt F)) (v2 : BitVec 32) (h2 : v2 = BitVec.ofNat 32 (64 * wL L)) :
    (s8).view.writes (Elt F) f [⟨Rect.unit (s := S64) ![48] S16.size inb_S64_S16_48, k1_pay17 (F := F) (v2 + 48#32) (View.readAt (Elt F) (s1).view (Rect.unit (s := S64) ![48] S16.size inb_S64_S16_48).toLoadRect fun y => X.b (at1 (row L (y 0))))⟩,
      ⟨Rect.unit (s := S64) ![32] S16.size inb_S64_S16_32, k1_pay13 (F := F) v2 (View.readAt (Elt F) (s1).view (Rect.unit (s := S64) ![32] S16.size inb_S64_S16_32).toLoadRect fun y => X.b (at1 (row L (y 0))))⟩,
      ⟨Rect.unit (s := S64) ![16] S16.size inb_S64_S16_16, k1_pay9 (F := F) (iota .scVector S16 32 [0] iota_S16_d0_w32_scVector) (k1_pay5 v2) (View.readAt (Elt F) (s1).view (Rect.unit (s := S64) ![16] S16.size inb_S64_S16_16).toLoadRect fun y => X.b (at1 (row L (y 0))))⟩,
      ⟨Rect.unit (s := S64) ![0] S16.size inb_S64_S16_0, k1_pay4 (F := F) v2 (View.readAt (Elt F) (s1).view (Rect.unit (s := S64) ![0] S16.size inb_S64_S16_0).toLoadRect fun y => X.b (at1 (row L (y 0))))⟩] = lst X L 0 := by
  subst h2
  refine (View.read_whole cc1_scratch8 _).symm.trans (read4 (s8) f (lst X L 0) _ _ _ _ (fun x => ?_) (fun x => ?_) (fun x => ?_) (fun x => ?_))
  · simp only [k1_pay4, k1_pay1, shapeCast_self]
    exact congrArg (· + X.b (at1 (row L ((Rect.unit (s := S64) ![0] S16.size inb_S64_S16_0).emb x 0)))) (word_piece L 0 inb_S64_S16_0 (by decide) _ rfl x)
  · simp only [k1_pay9, k1_pay6, k1_pay5, shapeCast_self]
    exact congrArg (· + X.b (at1 (row L ((Rect.unit (s := S64) ![16] S16.size inb_S64_S16_16).emb x 0)))) (word_piece L 16 inb_S64_S16_16 (by decide) _ rfl x)
  · simp only [k1_pay13, k1_pay10, shapeCast_self]
    exact congrArg (· + X.b (at1 (row L ((Rect.unit (s := S64) ![32] S16.size inb_S64_S16_32).emb x 0)))) (word_piece L 32 inb_S64_S16_32 (by decide) _ rfl x)
  · simp only [k1_pay17, k1_pay14, shapeCast_self]
    exact congrArg (· + X.b (at1 (row L ((Rect.unit (s := S64) ![48] S16.size inb_S64_S16_48).emb x 0)))) (word_piece L 48 inb_S64_S16_48 (by decide) _ rfl x)

theorem lst1 (f : (s9).view.ty.Contents (Elt F)) (v2 : BitVec 32) (h2 : v2 = BitVec.ofNat 32 (64 * wL L)) :
    (s9).view.writes (Elt F) f [⟨Rect.unit (s := S64) ![48] S16.size inb_S64_S16_48, k1_pay16 (F := F) (v2 + 48#32) (View.readAt (Elt F) (s0).view (Rect.unit (s := S64) ![48] S16.size inb_S64_S16_48).toLoadRect fun y => X.t (at1 (row L (y 0))))⟩,
      ⟨Rect.unit (s := S64) ![32] S16.size inb_S64_S16_32, k1_pay12 (F := F) v2 (View.readAt (Elt F) (s0).view (Rect.unit (s := S64) ![32] S16.size inb_S64_S16_32).toLoadRect fun y => X.t (at1 (row L (y 0))))⟩,
      ⟨Rect.unit (s := S64) ![16] S16.size inb_S64_S16_16, k1_pay8 (F := F) (iota .scVector S16 32 [0] iota_S16_d0_w32_scVector) (k1_pay5 v2) (View.readAt (Elt F) (s0).view (Rect.unit (s := S64) ![16] S16.size inb_S64_S16_16).toLoadRect fun y => X.t (at1 (row L (y 0))))⟩,
      ⟨Rect.unit (s := S64) ![0] S16.size inb_S64_S16_0, k1_pay3 (F := F) v2 (View.readAt (Elt F) (s0).view (Rect.unit (s := S64) ![0] S16.size inb_S64_S16_0).toLoadRect fun y => X.t (at1 (row L (y 0))))⟩] = lst X L 1 := by
  subst h2
  refine (View.read_whole cc1_scratch9 _).symm.trans (read4 (s9) f (lst X L 1) _ _ _ _ (fun x => ?_) (fun x => ?_) (fun x => ?_) (fun x => ?_))
  · simp only [k1_pay3, k1_pay1, shapeCast_self]
    exact congrArg (· + X.t (at1 (row L ((Rect.unit (s := S64) ![0] S16.size inb_S64_S16_0).emb x 0)))) (word_piece L 0 inb_S64_S16_0 (by decide) _ rfl x)
  · simp only [k1_pay8, k1_pay6, k1_pay5, shapeCast_self]
    exact congrArg (· + X.t (at1 (row L ((Rect.unit (s := S64) ![16] S16.size inb_S64_S16_16).emb x 0)))) (word_piece L 16 inb_S64_S16_16 (by decide) _ rfl x)
  · simp only [k1_pay12, k1_pay10, shapeCast_self]
    exact congrArg (· + X.t (at1 (row L ((Rect.unit (s := S64) ![32] S16.size inb_S64_S16_32).emb x 0)))) (word_piece L 32 inb_S64_S16_32 (by decide) _ rfl x)
  · simp only [k1_pay16, k1_pay14, shapeCast_self]
    exact congrArg (· + X.t (at1 (row L ((Rect.unit (s := S64) ![48] S16.size inb_S64_S16_48).emb x 0)))) (word_piece L 48 inb_S64_S16_48 (by decide) _ rfl x)

theorem lst2 (f : (s10).view.ty.Contents (Elt F)) (v2 : BitVec 32) (h2 : v2 = BitVec.ofNat 32 (64 * wL L)) :
    (s10).view.writes (Elt F) f [⟨Rect.unit (s := S64) ![48] S16.size inb_S64_S16_48, k1_pay15 (v2 + 48#32)⟩,
      ⟨Rect.unit (s := S64) ![32] S16.size inb_S64_S16_32, k1_pay11 v2⟩,
      ⟨Rect.unit (s := S64) ![16] S16.size inb_S64_S16_16, k1_pay7 (iota .scVector S16 32 [0] iota_S16_d0_w32_scVector) (k1_pay5 v2)⟩,
      ⟨Rect.unit (s := S64) ![0] S16.size inb_S64_S16_0, k1_pay2 v2⟩] = lst X L 2 := by
  subst h2
  refine (View.read_whole cc1_scratch10 _).symm.trans (read4 (s10) f (lst X L 2) _ _ _ _ (fun x => ?_) (fun x => ?_) (fun x => ?_) (fun x => ?_))
  · simp only [k1_pay2, k1_pay1, shapeCast_self]
    exact (word_piece L 0 inb_S64_S16_0 (by decide) _ rfl x).trans (BitVec.add_zero _).symm
  · simp only [k1_pay7, k1_pay6, k1_pay5, shapeCast_self]
    exact (word_piece L 16 inb_S64_S16_16 (by decide) _ rfl x).trans (BitVec.add_zero _).symm
  · simp only [k1_pay11, k1_pay10, shapeCast_self]
    exact (word_piece L 32 inb_S64_S16_32 (by decide) _ rfl x).trans (BitVec.add_zero _).symm
  · simp only [k1_pay15, k1_pay14, shapeCast_self]
    exact (word_piece L 48 inb_S64_S16_48 (by decide) _ rfl x).trans (BitVec.add_zero _).symm

theorem vrow0 (f : (s14).view.ty.Contents (Elt F)) :
    (s14).view.read (Elt F) ((s14).view.writes (Elt F) f [⟨Rect.unit (s := S64) ![48] S16.size inb_S64_S16_48, k1_pay32 (View.readAt (Elt F) (s3).view (Rect.unit (s := S64) ![48] S16.size inb_S64_S16_48).toLoadRect fun y => X.tab (at2 1 (row L (y 0)))) (View.readAt (Elt F) (s2).view (Rect.unit (s := S64) ![48] S16.size inb_S64_S16_48).toLoadRect fun y => X.tab (at2 0 (row L (y 0)))) (View.readAt (Elt F) (s11).view (Rect.unit (s := S64) ![48] S16.size inb_S64_S16_48).toLoadRect (prow X L 0))⟩,
      ⟨Rect.unit (s := S64) ![32] S16.size inb_S64_S16_32, k1_pay28 (View.readAt (Elt F) (s3).view (Rect.unit (s := S64) ![32] S16.size inb_S64_S16_32).toLoadRect fun y => X.tab (at2 1 (row L (y 0)))) (View.readAt (Elt F) (s2).view (Rect.unit (s := S64) ![32] S16.size inb_S64_S16_32).toLoadRect fun y => X.tab (at2 0 (row L (y 0)))) (View.readAt (Elt F) (s11).view (Rect.unit (s := S64) ![32] S16.size inb_S64_S16_32).toLoadRect (prow X L 0))⟩,
      ⟨Rect.unit (s := S64) ![16] S16.size inb_S64_S16_16, k1_pay22 (View.readAt (Elt F) (s3).view (Rect.unit (s := S64) ![16] S16.size inb_S64_S16_16).toLoadRect fun y => X.tab (at2 1 (row L (y 0)))) (View.readAt (Elt F) (s2).view (Rect.unit (s := S64) ![16] S16.size inb_S64_S16_16).toLoadRect fun y => X.tab (at2 0 (row L (y 0)))) (View.readAt (Elt F) (s11).view (Rect.unit (s := S64) ![16] S16.size inb_S64_S16_16).toLoadRect (prow X L 0))⟩,
      ⟨Rect.unit (s := S64) ![0] S16.size inb_S64_S16_0, k1_pay19 (k1_pay18 (View.readAt (Elt F) (s3).view (Rect.unit (s := S64) ![0] S16.size inb_S64_S16_0).toLoadRect fun y => X.tab (at2 1 (row L (y 0)))) (View.readAt (Elt F) (s2).view (Rect.unit (s := S64) ![0] S16.size inb_S64_S16_0).toLoadRect fun y => X.tab (at2 0 (row L (y 0)))) (View.readAt (Elt F) (s11).view (Rect.unit (s := S64) ![0] S16.size inb_S64_S16_0).toLoadRect (prow X L 0)))⟩]) = vrow X L 0 := by
  refine read4 (s14) f (vrow X L 0) _ _ _ _ (fun x => ?_) (fun x => ?_) (fun x => ?_) (fun x => ?_)
  · simp only [k1_pay19, k1_pay18, shapeCast_self]; rfl
  · simp only [k1_pay22, shapeCast_self]; rfl
  · simp only [k1_pay28, shapeCast_self]; rfl
  · simp only [k1_pay32, shapeCast_self]; rfl

theorem vrow1 (f : (s15).view.ty.Contents (Elt F)) :
    (s15).view.read (Elt F) ((s15).view.writes (Elt F) f [⟨Rect.unit (s := S64) ![48] S16.size inb_S64_S16_48, k1_pay33 (View.readAt (Elt F) (s5).view (Rect.unit (s := S64) ![48] S16.size inb_S64_S16_48).toLoadRect fun y => X.tab (at2 3 (row L (y 0)))) (View.readAt (Elt F) (s4).view (Rect.unit (s := S64) ![48] S16.size inb_S64_S16_48).toLoadRect fun y => X.tab (at2 2 (row L (y 0)))) (View.readAt (Elt F) (s12).view (Rect.unit (s := S64) ![48] S16.size inb_S64_S16_48).toLoadRect (prow X L 1))⟩,
      ⟨Rect.unit (s := S64) ![32] S16.size inb_S64_S16_32, k1_pay29 (View.readAt (Elt F) (s5).view (Rect.unit (s := S64) ![32] S16.size inb_S64_S16_32).toLoadRect fun y => X.tab (at2 3 (row L (y 0)))) (View.readAt (Elt F) (s4).view (Rect.unit (s := S64) ![32] S16.size inb_S64_S16_32).toLoadRect fun y => X.tab (at2 2 (row L (y 0)))) (View.readAt (Elt F) (s12).view (Rect.unit (s := S64) ![32] S16.size inb_S64_S16_32).toLoadRect (prow X L 1))⟩,
      ⟨Rect.unit (s := S64) ![16] S16.size inb_S64_S16_16, k1_pay26 (k1_pay23 (View.readAt (Elt F) (s5).view (Rect.unit (s := S64) ![16] S16.size inb_S64_S16_16).toLoadRect fun y => X.tab (at2 3 (row L (y 0))))) (k1_pay24 (View.readAt (Elt F) (s4).view (Rect.unit (s := S64) ![16] S16.size inb_S64_S16_16).toLoadRect fun y => X.tab (at2 2 (row L (y 0))))) (k1_pay25 (View.readAt (Elt F) (s12).view (Rect.unit (s := S64) ![16] S16.size inb_S64_S16_16).toLoadRect (prow X L 1)))⟩,
      ⟨Rect.unit (s := S64) ![0] S16.size inb_S64_S16_0, k1_pay20 (View.readAt (Elt F) (s5).view (Rect.unit (s := S64) ![0] S16.size inb_S64_S16_0).toLoadRect fun y => X.tab (at2 3 (row L (y 0)))) (View.readAt (Elt F) (s4).view (Rect.unit (s := S64) ![0] S16.size inb_S64_S16_0).toLoadRect fun y => X.tab (at2 2 (row L (y 0)))) (View.readAt (Elt F) (s12).view (Rect.unit (s := S64) ![0] S16.size inb_S64_S16_0).toLoadRect (prow X L 1))⟩]) = vrow X L 1 := by
  refine read4 (s15) f (vrow X L 1) _ _ _ _ (fun x => ?_) (fun x => ?_) (fun x => ?_) (fun x => ?_)
  · simp only [k1_pay20, shapeCast_self]; rfl
  · simp only [k1_pay26, k1_pay23, k1_pay24, k1_pay25, shapeCast_self]; rfl
  · simp only [k1_pay29, shapeCast_self]; rfl
  · simp only [k1_pay33, shapeCast_self]; rfl

theorem vrow2 (f : (s16).view.ty.Contents (Elt F)) :
    (s16).view.read (Elt F) ((s16).view.writes (Elt F) f [⟨Rect.unit (s := S64) ![48] S16.size inb_S64_S16_48, k1_pay34 (View.readAt (Elt F) (s7).view (Rect.unit (s := S64) ![48] S16.size inb_S64_S16_48).toLoadRect fun y => X.tab (at2 5 (row L (y 0)))) (View.readAt (Elt F) (s6).view (Rect.unit (s := S64) ![48] S16.size inb_S64_S16_48).toLoadRect fun y => X.tab (at2 4 (row L (y 0)))) (View.readAt (Elt F) (s13).view (Rect.unit (s := S64) ![48] S16.size inb_S64_S16_48).toLoadRect (prow X L 2))⟩,
      ⟨Rect.unit (s := S64) ![32] S16.size inb_S64_S16_32, k1_pay31 (k1_pay30 (View.readAt (Elt F) (s7).view (Rect.unit (s := S64) ![32] S16.size inb_S64_S16_32).toLoadRect fun y => X.tab (at2 5 (row L (y 0))))) (View.readAt (Elt F) (s6).view (Rect.unit (s := S64) ![32] S16.size inb_S64_S16_32).toLoadRect fun y => X.tab (at2 4 (row L (y 0)))) (View.readAt (Elt F) (s13).view (Rect.unit (s := S64) ![32] S16.size inb_S64_S16_32).toLoadRect (prow X L 2))⟩,
      ⟨Rect.unit (s := S64) ![16] S16.size inb_S64_S16_16, k1_pay27 (View.readAt (Elt F) (s7).view (Rect.unit (s := S64) ![16] S16.size inb_S64_S16_16).toLoadRect fun y => X.tab (at2 5 (row L (y 0)))) (View.readAt (Elt F) (s6).view (Rect.unit (s := S64) ![16] S16.size inb_S64_S16_16).toLoadRect fun y => X.tab (at2 4 (row L (y 0)))) (View.readAt (Elt F) (s13).view (Rect.unit (s := S64) ![16] S16.size inb_S64_S16_16).toLoadRect (prow X L 2))⟩,
      ⟨Rect.unit (s := S64) ![0] S16.size inb_S64_S16_0, k1_pay21 (View.readAt (Elt F) (s7).view (Rect.unit (s := S64) ![0] S16.size inb_S64_S16_0).toLoadRect fun y => X.tab (at2 5 (row L (y 0)))) (View.readAt (Elt F) (s6).view (Rect.unit (s := S64) ![0] S16.size inb_S64_S16_0).toLoadRect fun y => X.tab (at2 4 (row L (y 0)))) (View.readAt (Elt F) (s13).view (Rect.unit (s := S64) ![0] S16.size inb_S64_S16_0).toLoadRect (prow X L 2))⟩]) = vrow X L 2 := by
  refine read4 (s16) f (vrow X L 2) _ _ _ _ (fun x => ?_) (fun x => ?_) (fun x => ?_) (fun x => ?_)
  · simp only [k1_pay21, shapeCast_self]; rfl
  · simp only [k1_pay27, shapeCast_self]; rfl
  · simp only [k1_pay31, k1_pay30, shapeCast_self]; rfl
  · simp only [k1_pay34, shapeCast_self]; rfl

theorem out0 (d : Dev nD) (f : Buf (Elt F) (oLoc d)) :
    ((oSl0 L).view.loc (thr d L) ↦[(oSl0 L).view.set]{fullShare} (oSl0 L).view.writes (Elt F) f [⟨Rect.whole S64, vrow X L 0⟩] : sProp 𝕄)
      = oLoc d ↦[oPiece 0 (wL L)]{fullShare} scOut X := by
  rw [← pts_oSl0]
  refine pointsTo_congr fun i hi => ?_
  obtain ⟨x, -, rfl⟩ := Finset.mem_map.mp hi
  have h := View.read_writes_cons_emb (oSl0 L).view f (Rect.whole S64) (vrow X L 0) [] x
  rw [Rect.emb_whole_apply, View.read_apply] at h
  refine ((cast_eq _ _).symm.trans h).trans ?_
  rw [emb_oSl0]; rfl

theorem out1 (d : Dev nD) (f : Buf (Elt F) (oLoc d)) :
    ((oSl1 L).view.loc (thr d L) ↦[(oSl1 L).view.set]{fullShare} (oSl1 L).view.writes (Elt F) f [⟨Rect.whole S64, vrow X L 1⟩] : sProp 𝕄)
      = oLoc d ↦[oPiece 1 (wL L)]{fullShare} scOut X := by
  rw [← pts_oSl1]
  refine pointsTo_congr fun i hi => ?_
  obtain ⟨x, -, rfl⟩ := Finset.mem_map.mp hi
  have h := View.read_writes_cons_emb (oSl1 L).view f (Rect.whole S64) (vrow X L 1) [] x
  rw [Rect.emb_whole_apply, View.read_apply] at h
  refine ((cast_eq _ _).symm.trans h).trans ?_
  rw [emb_oSl1]; rfl

theorem out2 (d : Dev nD) (f : Buf (Elt F) (oLoc d)) :
    ((oSl2 L).view.loc (thr d L) ↦[(oSl2 L).view.set]{fullShare} (oSl2 L).view.writes (Elt F) f [⟨Rect.whole S64, vrow X L 2⟩] : sProp 𝕄)
      = oLoc d ↦[oPiece 2 (wL L)]{fullShare} scOut X := by
  rw [← pts_oSl2]
  refine pointsTo_congr fun i hi => ?_
  obtain ⟨x, -, rfl⟩ := Finset.mem_map.mp hi
  have h := View.read_writes_cons_emb (oSl2 L).view f (Rect.whole S64) (vrow X L 2) [] x
  rw [Rect.emb_whole_apply, View.read_apply] at h
  refine ((cast_eq _ _).symm.trans h).trans ?_
  rw [emb_oSl2]; rfl

end Tile

end Cert.Proof.Run
-- ==== Proof.Tile.lean ====
/-
  The body of the SparseCore kernel at a symbolic tile: what each copy brings, the three index lists, the three indirect
  gathers over them, the arithmetic and the copies out.
-/
module

public import proofs.«01_k».proof.Proof.TileLists

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (X : Dev nD → Ops F) (d : Dev nD) (L : grid1.Coords)

set_option maxHeartbeats 8000000 in
set_option maxRecDepth 65536 in
theorem tile_body (hF : (K (F := F)).Facts) (hX : InVocab (X d)) (q : PosShare TreeShare)
    (O : CellTallies nD τ sig (HIx 1)) (W : Waits sig (HIx 1)) (hO : ∀ g, O g none = 0) :
    iprop(levAts (K (F := F)).L (K (F := F)).lev ∗ emp
        ∗ (inPts X d q ∗ oLoc d ↦[oTile (wL L)]{fullShare} (X d).o)
        ∗ scopedBufs (thr d L) ∗ scopedSems0 (thr d L) ∗ owes (thr d L) O W)
      ⊢ wp frame (wpE (defs₀ (F := F)) 𝒱₀ (thr d L) none) Set.univ
          (cc1__sc_body L tM (Memref.isWhole_whole _) bM (Memref.isWhole_whole _) tabM (Memref.isWhole_whole _) pM (Memref.isWhole_whole _) oM (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) s11 (Memref.isWhole_whole _) s12 (Memref.isWhole_whole _) s13 (Memref.isWhole_whole _) s14 (Memref.isWhole_whole _) s15 (Memref.isWhole_whole _) s16 (Memref.isWhole_whole _) cc1_scratch17 cc1_scoped0 cc1_scoped1 cc1_scoped2 cc1_scoped3 cc1_scoped4 cc1_scoped5 cc1_scoped6 cc1_scoped7 cc1_scoped8 cc1_scoped9 cc1_scoped10)
          fun _ => iprop((inPts X d q ∗ oLoc d ↦[oTile (wL L)]{fullShare} scOut (X d))
            ∗ scopedBufs (thr d L) ∗ scopedSems0 (thr d L)
            ∗ ∃ W', ⌜∀ p ∈ W', p ∈ W ∨ p.2 = none⌝ ∗ owes (thr d L) O W') := by
  rw [oTile_split, oTile_split]
  rw [cc1__sc_body_eq_skeleton]
  unfold cc1__sc_body_skel
  rw [k1_part1_eq_skeleton, k1_part2_eq_skeleton, k1_part3_eq_skeleton, k1_part4_eq_skeleton,
    k1_part5_eq_skeleton, k1_part6_eq_skeleton, k1_part7_eq_skeleton]
  delta k1_part1_skel k1_part2_skel k1_part3_skel k1_part4_skel k1_part5_skel k1_part6_skel k1_part7_skel
  rw [(K (F := F)).scopedBufs_V hF d (cV L) (jV L), SparseCore.Cfg.scopedSems0_V (Val := Elt F) d (cV L) (jV L), ownSems0_V, ownBufs_V]
  unfold inPts
  iintro ⟨#Hlv, -, ⟨⟨Ht, Hb, Htab, Hp⟩, Ho0, Ho1, Ho2⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩, ⟨%f14, Hs14⟩, ⟨%f15, Hs15⟩, ⟨%f16, Hs16⟩, Hbufs⟩, ⟨Hg0, Hg1, Hg2, Hg3, Hg4, Hg5, Hg6, Hg7, Hg8, Hg9, Hg10, Hg11, Hsems⟩, HO⟩
  ihave Hmw := (show levAts (K (F := F)).L (K (F := F)).lev ⊢ Transfers.MayWaits (thr d L) (default : HIx 1) O from
    (K (F := F)).mayWaits_none (thr := thr d L) hO) $$ Hlv
  ihave Ht := (Entails.of_eq (pts_tM (F := F) d L _ _).symm) $$ Ht
  ihave Hb := (Entails.of_eq (pts_bM (F := F) d L _ _).symm) $$ Hb
  ihave Htab := (Entails.of_eq (pts_tabM (F := F) d L _ _).symm) $$ Htab
  ihave Hp := (Entails.of_eq (pts_pM (F := F) d L _ _).symm) $$ Hp
  ihave Ho0 := (Entails.of_eq (pts_oSl0 (F := F) d L _).symm) $$ Ho0
  ihave Ho1 := (Entails.of_eq (pts_oSl1 (F := F) d L _).symm) $$ Ho1
  ihave Ho2 := (Entails.of_eq (pts_oSl2 (F := F) d L _).symm) $$ Ho2
  sl_exec
  have e0 : View.write (Elt F) (s0).view f0 (tile_body.sl.dma0 X d L) Finset.univ = fun y => (X d).t (at1 (row L (y 0))) :=
    (View.write_whole_univ _ _ _).trans (read_tSl L _)
  have e1 : View.write (Elt F) (s1).view f1 (tile_body.sl.dma0_1 X d L) Finset.univ = fun y => (X d).b (at1 (row L (y 0))) :=
    (View.write_whole_univ _ _ _).trans (read_bSl L _)
  have e2 : View.write (Elt F) (s2).view f2 (tile_body.sl.dma0_2 X d L) Finset.univ = fun y => (X d).tab (at2 0 (row L (y 0))) :=
    (View.write_whole_univ _ _ _).trans (read_tabSl0 L _)
  ihave Hs2 := (pts_eq e2) $$ Hs2
  have e3 : View.write (Elt F) (s3).view f3 (tile_body.sl.dma0_3 X d L) Finset.univ = fun y => (X d).tab (at2 1 (row L (y 0))) :=
    (View.write_whole_univ _ _ _).trans (read_tabSl1 L _)
  ihave Hs3 := (pts_eq e3) $$ Hs3
  have e4 : View.write (Elt F) (s4).view f4 (tile_body.sl.dma0_4 X d L) Finset.univ = fun y => (X d).tab (at2 2 (row L (y 0))) :=
    (View.write_whole_univ _ _ _).trans (read_tabSl2 L _)
  ihave Hs4 := (pts_eq e4) $$ Hs4
  have e5 : View.write (Elt F) (s5).view f5 (tile_body.sl.dma0_5 X d L) Finset.univ = fun y => (X d).tab (at2 3 (row L (y 0))) :=
    (View.write_whole_univ _ _ _).trans (read_tabSl3 L _)
  ihave Hs5 := (pts_eq e5) $$ Hs5
  have e6 : View.write (Elt F) (s6).view f6 (tile_body.sl.dma0_6 X d L) Finset.univ = fun y => (X d).tab (at2 4 (row L (y 0))) :=
    (View.write_whole_univ _ _ _).trans (read_tabSl4 L _)
  ihave Hs6 := (pts_eq e6) $$ Hs6
  have e7 : View.write (Elt F) (s7).view f7 (tile_body.sl.dma0_7 X d L) Finset.univ = fun y => (X d).tab (at2 5 (row L (y 0))) :=
    (View.write_whole_univ _ _ _).trans (read_tabSl5 L _)
  ihave Hs7 := (pts_eq e7) $$ Hs7
  have hb : tile_body.sl.v2 L = BitVec.ofNat 32 (64 * wL L) := base_word L
  have h8 : (s8).view.writes (Elt F) (s8).view.junk (tile_body.sl.Hs8_4 X d L f1) = lst (X d) L 0 := by
    unfold tile_body.sl.Hs8_4
    rw [e1]
    exact lst0 (X d) L _ _ hb
  rw [h8]
  rw [e0]
  ihave Hs9 := (pts_eq (g := lst (X d) L 1) (lst1 (X d) L _ _ hb)) $$ Hs9
  ihave Hs10 := (pts_eq (g := lst (X d) L 2) (lst2 (X d) L _ _ hb)) $$ Hs10
  have hN0 : ∀ h : S65536000.Gathers 0 S64, ∑ j, ((s11).slice (S64.rowRect h.axis' j) (S64.stride_rowRect h.axis' j)).view.dmaCredit = (s11).view.dmaCredit := by decide
  have hin0 : ∀ x, ((s8).view.read (Elt F) (lst (X d) L 0) x : BitVec 32).toNat < S65536000.size gathers_S65536000_S64.axis := fun x => by
    show (lst (X d) L 0 x : BitVec 32).toNat < 65536000
    rw [lst_toNat (X d) L hX]; exact (flat (X d) 0 _).isLt
  iapply (SparseCore.wp_gatherFromWhole countersEmb 𝒱₀ (thr d L) none (hg := gathers_S65536000_S64) (default : HIx 1) (s11).view.dmaCredit (hN0 _) (by decide) hin0) $$ [Hp Hs11 Hs8 Hg0]
  · isplitl [Hp]; · iexact Hp
    isplitl [Hs11]; · iexact Hs11
    isplitl [Hs8]; · iexact Hs8
    iexact Hg0
  iintro Hfl
  sl_exec
  iapply (Transfers.wp_waitLocalO countersEmb 𝒱₀ (thr d L) none (default : HIx 1) (rfl : (s11).view.dmaCredit = _)) $$ [Hfl HO]
  · isplitl [Hfl]; · iexact Hfl
    isplitl [HO]; · iexact HO
    iapply (Transfers.MayWaits.elim (SemLoc.dma cc1_scratch17.sem)) $$ Hmw
  iintro ⟨⟨Hs11, Hp, Hs8⟩, Hg0, HO⟩
  ihave Hs11 := (pts_eq (g := prow (X d) L 0) ((View.write_whole_univ _ _ _).trans (gather_eq (X d) L hX 0 rfl hin0))) $$ Hs11
  sl_exec
  have hN1 : ∀ h : S65536000.Gathers 0 S64, ∑ j, ((s12).slice (S64.rowRect h.axis' j) (S64.stride_rowRect h.axis' j)).view.dmaCredit = (s12).view.dmaCredit := by decide
  have hin1 : ∀ x, ((s9).view.read (Elt F) (lst (X d) L 1) x : BitVec 32).toNat < S65536000.size gathers_S65536000_S64.axis := fun x => by
    show (lst (X d) L 1 x : BitVec 32).toNat < 65536000
    rw [lst_toNat (X d) L hX]; exact (flat (X d) 1 _).isLt
  iapply (SparseCore.wp_gatherFromWhole countersEmb 𝒱₀ (thr d L) none (hg := gathers_S65536000_S64) (default : HIx 1) (s12).view.dmaCredit (hN1 _) (by decide) hin1) $$ [Hp Hs12 Hs9 Hg0]
  · isplitl [Hp]; · iexact Hp
    isplitl [Hs12]; · iexact Hs12
    isplitl [Hs9]; · iexact Hs9
    iexact Hg0
  iintro Hfl
  sl_exec
  iapply (Transfers.wp_waitLocalO countersEmb 𝒱₀ (thr d L) none (default : HIx 1) (rfl : (s12).view.dmaCredit = _)) $$ [Hfl HO]
  · isplitl [Hfl]; · iexact Hfl
    isplitl [HO]; · iexact HO
    iapply (Transfers.MayWaits.elim (SemLoc.dma cc1_scratch17.sem)) $$ Hmw
  iintro ⟨⟨Hs12, Hp, Hs9⟩, Hg0, HO⟩
  ihave Hs12 := (pts_eq (g := prow (X d) L 1) ((View.write_whole_univ _ _ _).trans (gather_eq (X d) L hX 1 rfl hin1))) $$ Hs12
  sl_exec
  have hN2 : ∀ h : S65536000.Gathers 0 S64, ∑ j, ((s13).slice (S64.rowRect h.axis' j) (S64.stride_rowRect h.axis' j)).view.dmaCredit = (s13).view.dmaCredit := by decide
  have hin2 : ∀ x, ((s10).view.read (Elt F) (lst (X d) L 2) x : BitVec 32).toNat < S65536000.size gathers_S65536000_S64.axis := fun x => by
    show (lst (X d) L 2 x : BitVec 32).toNat < 65536000
    rw [lst_toNat (X d) L hX]; exact (flat (X d) 2 _).isLt
  iapply (SparseCore.wp_gatherFromWhole countersEmb 𝒱₀ (thr d L) none (hg := gathers_S65536000_S64) (default : HIx 1) (s13).view.dmaCredit (hN2 _) (by decide) hin2) $$ [Hp Hs13 Hs10 Hg0]
  · isplitl [Hp]; · iexact Hp
    isplitl [Hs13]; · iexact Hs13
    isplitl [Hs10]; · iexact Hs10
    iexact Hg0
  iintro Hfl
  sl_exec
  iapply (Transfers.wp_waitLocalO countersEmb 𝒱₀ (thr d L) none (default : HIx 1) (rfl : (s13).view.dmaCredit = _)) $$ [Hfl HO]
  · isplitl [Hfl]; · iexact Hfl
    isplitl [HO]; · iexact HO
    iapply (Transfers.MayWaits.elim (SemLoc.dma cc1_scratch17.sem)) $$ Hmw
  iintro ⟨⟨Hs13, Hp, Hs10⟩, Hg0, HO⟩
  ihave Hs13 := (pts_eq (g := prow (X d) L 2) ((View.write_whole_univ _ _ _).trans (gather_eq (X d) L hX 2 rfl hin2))) $$ Hs13
  sl_exec
  have h14 : tile_body.sl.dma60 X d L f14 = vrow (X d) L 0 := vrow0 (X d) L f14
  have h15 : tile_body.sl.dma60_1 X d L f15 = vrow (X d) L 1 := vrow1 (X d) L f15
  have h16 : tile_body.sl.dma60_2 X d L f16 = vrow (X d) L 2 := vrow2 (X d) L f16
  rw [h14, h15, h16]
  ihave Ho0 := (Entails.of_eq (out0 (X d) L d _)) $$ Ho0
  ihave Ho1 := (Entails.of_eq (out1 (X d) L d _)) $$ Ho1
  ihave Ho2 := (Entails.of_eq (out2 (X d) L d _)) $$ Ho2
  ihave Ht := (Entails.of_eq (pts_tM (F := F) d L _ _)) $$ Ht
  ihave Hb := (Entails.of_eq (pts_bM (F := F) d L _ _)) $$ Hb
  ihave Htab := (Entails.of_eq (pts_tabM (F := F) d L _ _)) $$ Htab
  sl_step
  isplitl [Ht Hb Htab Hp Ho0 Ho1 Ho2]
  · isplitl [Ht Hb Htab Hp]
    · isplitl [Ht]; · iexact Ht
      isplitl [Hb]; · iexact Hb
      isplitl [Htab]; · iexact Htab
      iexact Hp
    isplitl [Ho0]; · iexact Ho0
    isplitl [Ho1]; · iexact Ho1
    iexact Ho2
  isplitl [Hs0 Hs1 Hs2 Hs3 Hs4 Hs5 Hs6 Hs7 Hs8 Hs9 Hs10 Hs11 Hs12 Hs13 Hs14 Hs15 Hs16 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hs12]; · iexists _; iexact Hs12
    isplitl [Hs13]; · iexists _; iexact Hs13
    isplitl [Hs14]; · iexists _; iexact Hs14
    isplitl [Hs15]; · iexists _; iexact Hs15
    isplitl [Hs16]; · iexists _; iexact Hs16
    iexact Hbufs
  isplitl [Hg0 Hg1 Hg2 Hg3 Hg4 Hg5 Hg6 Hg7 Hg8 Hg9 Hg10 Hg11 Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hg10]; · iexact Hg10
    isplitl [Hg11]; · iexact Hg11
    iexact Hsems
  iexists _
  isplitr [HO]; rotate_left
  · iexact HO
  ipureintro
  intro p hp
  simp only [Finset.mem_insert] at hp
  rcases hp with rfl | rfl | rfl | rfl | rfl | rfl | rfl | rfl | rfl | rfl | rfl | rfl | rfl | rfl |  h
  iterate 14 exact .inr rfl
  exact .inl h

end Tile

end Cert.Proof.Run
-- ==== Proof.Handshakes.lean ====
/-
  The SparseCore call's obligations: every tile's task from its body's run, and the split of a SparseCore's operands among
  its sixteen tiles.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (X : Dev nD → Ops F)

/-! ## The task of a tile -/

/-- The grid place of tile `s` of SparseCore `c`. -/
def place (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__sc_body (place c s) tM (Memref.isWhole_whole _) bM (Memref.isWhole_whole _)
          tabM (Memref.isWhole_whole _) pM (Memref.isWhole_whole _) oM (Memref.isWhole_whole _) s0 (Memref.isWhole_whole _) s1 (Memref.isWhole_whole _)
          s2 (Memref.isWhole_whole _) s3 (Memref.isWhole_whole _) s4 (Memref.isWhole_whole _) s5 (Memref.isWhole_whole _) s6 (Memref.isWhole_whole _)
          s7 (Memref.isWhole_whole _) s8 (Memref.isWhole_whole _) s9 (Memref.isWhole_whole _) s10 (Memref.isWhole_whole _) s11 (Memref.isWhole_whole _)
          s12 (Memref.isWhole_whole _) s13 (Memref.isWhole_whole _) s14 (Memref.isWhole_whole _) s15 (Memref.isWhole_whole _) s16 (Memref.isWhole_whole _)
          cc1_scratch17 cc1_scoped0 cc1_scoped1 cc1_scoped2 cc1_scoped3 cc1_scoped4 cc1_scoped5 cc1_scoped6 cc1_scoped7 cc1_scoped8 cc1_scoped9 cc1_scoped10) ⟨⟩ c s := rfl

/-- The waits a task adds all carry the index of no call, which is one of the two the call may add. -/
theorem waits_weaken {t : Thread nD τ} {A B C : sProp 𝕄} {O : CellTallies nD τ sig (HIx 1)} {W : Waits sig (HIx 1)} (q : Fin 1) :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr [HO]; rotate_left
  · iexact HO
  ipureintro
  intro p hp
  exact (h p hp).elim .inl fun e => .inr (.inl e)

set_option maxRecDepth 16384 in
theorem tileObl (hF : (K (F := F)).Facts) (hX : ∀ d, InVocab (X d)) : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body X d (place ⟨_, hci.1⟩ ⟨_, hci.2⟩) hF (hX d) (qT (Fin.cast nCore_zero c) (Fin.cast nSub_zero i)) O W hO).trans
    (wp_mono frame _ _ fun _ => waits_weaken 0)

/-! ## The operands split among the tiles -/

/-- Each operand at a share is itself at the pieces of the share. -/
theorem inPts_pieces (d : Dev nD) (n : ℕ) (hn : 0 < n) (q : PosShare TreeShare) :
    inPts X d q = bigSep Finset.univ fun j : Fin n => inPts X d (pieceOf q n hn j) := by
  unfold inPts
  rw [bigSep_sep', bigSep_sep', bigSep_sep', ← pointsTo_piecesOf, ← pointsTo_piecesOf, ← pointsTo_piecesOf, ← pointsTo_piecesOf]

theorem oCore_eq (c : Fin 2) : (Finset.univ : Finset (Fin 16)).biUnion (fun s => oTile (2 * s.val + c.val)) = oCore c.val := by
  ext i
  have h : (i 1).val < 2048 := (i 1).isLt
  have hc := c.isLt
  simp only [oCore, oTile, Finset.mem_filter, Finset.mem_univ, _root_.true_and, Finset.mem_biUnion]
  constructor
  · rintro ⟨s, e⟩; omega
  · intro e; exact ⟨⟨(i 1).val / 64 / 2, by omega⟩, by show (i 1).val / 64 = 2 * ((i 1).val / 64 / 2) + c.val; omega⟩

theorem oCore_tiles (d : Dev nD) (c : Fin 2) (f : Buf (Elt F) (oLoc d)) :
    (oLoc d ↦[oCore c.val]{fullShare} f : sProp 𝕄)
      = bigSep Finset.univ fun s : Fin 16 => oLoc d ↦[oTile (2 * s.val + c.val)]{fullShare} f := by
  rw [← pointsTo_biUnion Finset.univ (ℓ := oLoc d) (fun s : Fin 16 => oTile (2 * s.val + c.val)), oCore_eq]
  intro s _ s' _ hs
  rw [Finset.disjoint_left]; intro i hi hi'
  simp only [oTile, Finset.mem_filter, Finset.mem_univ, _root_.true_and] at hi hi'
  exact hs (Fin.ext (by omega))

theorem o_univ : (Finset.univ : Finset (Fin 2)).biUnion (fun c => oCore c.val) = Finset.univ := by
  ext i
  simp only [oCore, Finset.mem_filter, Finset.mem_univ, _root_.true_and, Finset.mem_biUnion, iff_true]
  exact ⟨⟨(i 1).val / 64 % 2, by omega⟩, rfl⟩

theorem o_cores (d : Dev nD) (f : Buf (Elt F) (oLoc d)) :
    (oLoc d ↦{fullShare} f : sProp 𝕄) = bigSep Finset.univ fun c : Fin 2 => oLoc d ↦[oCore c.val]{fullShare} f := by
  rw [← pointsTo_biUnion Finset.univ (ℓ := oLoc d) (fun c : Fin 2 => oCore c.val)]
  · exact congrArg (fun I => (oLoc d ↦[I]{fullShare} f : sProp 𝕄)) o_univ.symm
  · intro c _ c' _ hc
    rw [Finset.disjoint_left]; intro i hi hi'
    simp only [oCore, Finset.mem_filter, Finset.mem_univ, _root_.true_and] at hi hi'
    exact hc (Fin.ext (by omega))

theorem st0_tiles (d : Dev nD) (c : Fin 2) : st0 X d c = bigSep Finset.univ fun s : Fin 16 => go0 X d c s := by
  unfold st0 go0
  rw [bigSep_sep', ← oCore_tiles, inPts_pieces X d 16 (by decide)]; rfl

theorem dn0_tiles (d : Dev nD) (c : Fin 2) : dn0 X d c = bigSep Finset.univ fun s : Fin 16 => td0 X d c s := by
  unfold dn0 td0
  rw [bigSep_sep', ← oCore_tiles, inPts_pieces X d 16 (by decide)]; rfl

theorem tasks_cast (Φ : Fin 16 → sProp 𝕄) :
    (bigSep Finset.univ fun i : Fin ((K (F := F)).nSub 0) => Φ (Fin.cast nSub_zero i)) = bigSep Finset.univ Φ :=
  bigSep_congr fun _ _ => rfl

theorem cores_cast (Φ : Fin 2 → sProp 𝕄) :
    (bigSep Finset.univ fun c : Fin ((K (F := F)).nCore 0) => Φ (Fin.cast nCore_zero c)) = bigSep Finset.univ Φ :=
  bigSep_congr fun _ _ => rfl

theorem vecSplit : (K (F := F)).VecSplit' (P X) 0 := by
  intro d c
  have hgo : (bigSep Finset.univ fun i : Fin ((K (F := F)).nSub 0) => (P X).go 0 d c i) = st0 X d (Fin.cast nCore_zero c) :=
    (tasks_cast fun i => go0 X d (Fin.cast nCore_zero c) i).trans (st0_tiles X d _).symm
  have htd : (bigSep Finset.univ fun i : Fin ((K (F := F)).nSub 0) => (P X).td 0 d c i) = dn0 X d (Fin.cast nCore_zero c) :=
    (tasks_cast fun i => td0 X d (Fin.cast nCore_zero c) i).trans (dn0_tiles X d _).symm
  rw [hgo, htd]
  show st0 X d (Fin.cast nCore_zero c) ⊢ |={Set.univ}=> iprop(st0 X d (Fin.cast nCore_zero c) ∗ (dn0 X d (Fin.cast nCore_zero c) -∗ dn0 X d (Fin.cast nCore_zero c)))
  iintro H; imodintro
  isplitl [H]; · iexact H
  iintro H; iexact H

/-! ## The whole call, as the TensorCore sees it -/

/-- All the operands of the call, whole, with `f` in the result. -/
def callPts (d : Dev nD) (f : Buf (Elt F) (oLoc d)) : sProp 𝕄 := iprop(inPts X d fullShare ∗ oLoc d ↦{fullShare} f)

theorem start_eq (d : Dev nD) : (bigSep Finset.univ fun c : Fin ((K (F := F)).nCore 0) => (P X).st 0 d c) = callPts X d (X d).o := by
  refine (cores_cast fun c => st0 X d c).trans ?_
  unfold st0 callPts
  rw [bigSep_sep', ← o_cores, inPts_pieces X d 2 (by decide)]; rfl

theorem done_eq (d : Dev nD) : (bigSep Finset.univ fun c : Fin ((K (F := F)).nCore 0) => (P X).dn 0 d c) = callPts X d (scOut (X d)) := by
  refine (cores_cast fun c => dn0 X d c).trans ?_
  unfold dn0 callPts
  rw [bigSep_sep', ← o_cores, inPts_pieces X d 2 (by decide)]; rfl

end Cert.Proof.Run
-- ==== Proof.RegionKit.lean ====
/-
  A pallas_call of the TensorCore between the stretches of the entry function: entered with every unscoped buffer of the
  core held at a valuation and the core owing what it owes of the SparseCore call, left with the same buffers held at the
  valuation updated at the call's arrays and the same owed. The waits of the call's own copies are all below the waits of
  the SparseCore call, so the bound on the recorded waits comes back as it was.
-/
module

public import proofs.«01_k».proof.Proof.Handshakes
public import Idealize.ShloMosaic.Lib.Pipeline.RegionArraysS
public import Idealize.ShloMosaic.Lib.Pipeline.FrameTail

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat PLaunchFacts arrRef arrRefs ucRefs afterRegion BodyObligationLoose)

variable {F : FTy → Type} [FloatOps F] [Named F]

local notation "𝕄" => MT nD τ sig (HIx 1) (Elt F) ℕ UU ℕ

/-- The tables of the two pallas_calls: neither has any. -/
abbrev adm : (p : Fin 2) → (pcfgs (F := F) p).Adm := fun p => (cfgs p).toPCfg_adm

abbrev Dats (F : FTy → Type) [FloatOps F] [Named F] : Type :=
  (p : Fin 2) → (c : Dev nD) → Dat τ (Elt F) (HIx 1) ℕ UU ℕ (Pipeline.pin (pcfgs (F := F)) adm p) c

/-- The waits recorded at or below level `b`. -/
def lowWaits (c : Dev nD) (b : ℕ) : Set (SemLoc sig × HIx 1) := {q | (K (F := F)).lev (T c, q.1) q.2 ≤ b}

/-- What the core owes, its recorded waits at or below level `b`. -/
def owesBelow (c : Dev nD) (O : CellTallies nD τ sig (HIx 1)) (b : ℕ) : sProp 𝕄 :=
  iprop(∃ Wd, ⌜(K (F := F)).WBelow (T c) Wd b⌝ ∗ owes (T c) O Wd)

/-- The state of the core between two calls. -/
def heldAt (c : Dev nD) (W : Valuation τ sig (Elt F)) (O : CellTallies nD τ sig (HIx 1)) (b : ℕ) : sProp 𝕄 :=
  iprop(StableHlo.held (c.tc : Thread nD τ) (ucRefs τ sig) W ∗ owesBelow c O b)

variable (pdats : Dats F) (p : Fin 2)

/-- The region of a pallas_call of the TensorCore over that state. -/
def region (kit : PLaunchFacts (nD := nD) (τ := τ) (pcfgs (F := F)) p) (hK : (pcfgs (F := F) p).pre.K = 0)
    (hbody : ∀ c, BodyObligationLoose (pdats p c) defs₀ 𝒱₀ (none : HIx 1) Set.univ)
    (O : CellTallies nD τ sig (HIx 1)) (b : ℕ) (hO : ∀ g i, 0 < O g i → b < (K (F := F)).lev g i)
    (howed : ∀ c t, (pdats p c).owed t = O) (hrec : ∀ c t, (pdats p c).recorded t = lowWaits (F := F) c b)
    (hshare : ∀ c w, (pdats p c).share w = fullShare)
    (hΦ : ∀ c t, (pdats p c).Φ t = Pipeline.scopedRest (Pipeline.pin (pcfgs (F := F)) adm p).spec c)
    (hun : ∀ w, (arrRef (pcfgs (F := F) p).spec w).isScoped = false)
    (W : Dev nD → Valuation τ sig (Elt F))
    (hW : ∀ c w, (pdats p c).A w = W c (Proc.devRef .tc (arrRef (Pipeline.pin (pcfgs (F := F)) adm p).spec w))) :
    Pipeline.RegionSeg (pcfgs (F := F)) adm pdats (none : HIx 1) defs₀ 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_of_cut (Pipeline.pin (pcfgs (F := F)) adm) pdats none p c b O (howed c)
    (fun _ _ => Finset.mem_univ _) (fun _ _ => Nat.zero_le _) (fun g i h => ⟨Finset.mem_univ _, hO g i h⟩)
  pre c := heldAt c (W c) O b
  post c := heldAt c (afterRegion (pdats p c) (W c)) O b
  X _ := BI.emp
  Y _ := BI.emp
  Z c := StableHlo.held (c.tc : Thread nD τ) (ucRefs τ sig \ arrRefs (pcfgs (F := F) p).spec) (W c)
  hentry c := by
    rw [Pipeline.ownSems0_none, Pipeline.prefHeld_of_none _ hK,
      Pipeline.arrays_held (pcfgs (F := F)) adm pdats p kit c (hshare c) (fun w => (pdats p c).arrAt w 0) (W c) (hW c)]
    unfold heldAt owesBelow
    rw [StableHlo.held_sub_split (c.tc : Thread nD τ) (Pipeline.arrRefs_sub_ucRefs _ hun) (W c)]
    iintro ⟨⟨⟨Ha, Hz⟩, %Wd, %hWd, HO⟩, -, -⟩
    imodintro
    isplitl [Ha]; · iexact Ha
    isplitr; · iempintro
    isplitl [HO]
    · unfold Pipeline.Dat.owesAt Pipeline.owesWithin Pipeline.Dat.bound
      rw [howed c 0, hrec c 0]
      iexists Wd; isplitr; · ipureintro; exact fun q hq => Or.inl (hWd q hq)
      iexact HO
    isplitr; · iempintro
    iexact Hz
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    rw [Pipeline.arrays_held (pcfgs (F := F)) adm pdats p kit c (hshare c) _ (afterRegion (pdats p c) (W c))
      (fun w => (Pipeline.afterRegion_arr (pdats p c) (W c) kit.win.arr_inj w).symm)]
    unfold heldAt owesBelow
    rw [StableHlo.held_sub_split (c.tc : Thread nD τ) (Pipeline.arrRefs_sub_ucRefs _ hun) (afterRegion (pdats p c) (W c)),
      StableHlo.held_congr (c.tc : Thread nD τ) (S := ucRefs τ sig \ arrRefs (pcfgs (F := F) p).spec) (V := afterRegion (pdats p c) (W c))
        (V' := W c) (Pipeline.afterRegion_off (pdats p c) (W c) _)]
    iintro ⟨Ha, HO, -, Hz⟩
    imodintro
    isplitl [Ha Hz]
    · isplitl [Ha]; · iexact Ha
      iexact Hz
    unfold Pipeline.Dat.owesAt Pipeline.owesWithin Pipeline.Dat.bound
    rw [howed c (Fin.last _), hrec c (Fin.last _)]
    icases HO with ⟨%Wd, %hWd, HO⟩
    iexists Wd; isplitr
    · ipureintro
      intro q hq
      rcases hWd hq with h | ⟨w, s, h⟩
      · exact h
      · rw [h]; exact Nat.zero_le _
    iexact HO

end Cert.Proof.Run

end
-- ==== Proof.Bodies.lean ====
/-
  The bodies of the two pallas_calls, each run once from its staging buffers: it hands the inputs' buffers back as they
  were and leaves the result's reading as one closed term in what the inputs' buffers read.
-/
module

public import proofs.«01_k».proof.Proof.RegionKit
public import Idealize.ShloMosaic.Lib.Pipeline.ValueKit

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The table the first body computes from the targets, the biased targets and the biased offsets. -/
def fixOut (x0 x1 : S1x2048.Idx → Elt F .i32) (x2 : S1x2048.Idx → Elt F .f32) : S8x2048.Idx → Elt F .f32 :=
  k0_pay1 (k0_pay7 x0 x2) (k0_pay8 x0 x1 x2) (k0_pay9 x0 x1 x2) k0_pay10 (k0_pay11 x0 x2) (k0_pay12 x0 x1 x2) k0_pay13

theorem fix_run (c : Dev nD) (M0 : Memref sig .tc .vmem S1x2048 .i32) (h0 : M0.IsWhole) (M1 : Memref sig .tc .vmem S1x2048 .i32) (h1 : M1.IsWhole)
    (M2 : Memref sig .tc .vmem S1x2048 .f32) (h2 : M2.IsWhole) (M3 : Memref sig .tc .vmem S8x2048 .f32) (h3 : M3.IsWhole)
    (x0 x1 : S1x2048.Idx → Elt F .i32) (x2 : S1x2048.Idx → Elt F .f32) (E : Set ℕ) (Q : PUnit → sProp 𝕄) :
    iprop(owns c M0 fullShare x0 ∗ owns c M1 fullShare x1 ∗ owns c M2 fullShare x2 ∗ (∃ y, owns c M3 fullShare y)
        ∗ (iprop(owns c M0 fullShare x0 ∗ owns c M1 fullShare x1 ∗ owns c M2 fullShare x2 ∗ owns c M3 fullShare (fixOut x0 x1 x2)) -∗ Q ⟨⟩))
      ⊢ wp frame (wpE (defs₀ (F := F)) 𝒱₀ (c : Thread nD τ) none) E (cc0__fix_body M0 h0 M1 h1 M2 h2 M3 h3) Q := by
  unfold owns
  rw [h0.set_eq_univ, h1.set_eq_univ, h2.set_eq_univ, h3.set_eq_univ]
  iintro ⟨⟨%f0, %e0, H0⟩, ⟨%f1, %e1, H1⟩, ⟨%f2, %e2, H2⟩, ⟨%y, %f3, -, H3⟩, Hk⟩
  rw [cc0__fix_body_eq_skeleton]
  unfold cc0__fix_body_skel
  rw [k0_part1_eq_skeleton]
  unfold k0_part1_skel
  sl_exec!
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _; isplitr; swap; · iexact H3
  ipureintro
  subst e0 e1 e2
  rw [View.read_writes_junk_eq_canon]
  sl_unfold_words
  simp only [View.readAt_eq_ld]
  have z : (![0, 0] : Fin 2 → ℕ) = fun _ => 0 := by funext a; fin_cases a <;> rfl
  rw [View.canon_cons_unit_zero z, View.ld_unit_zero z, View.ld_unit_zero z, View.ld_unit_zero z]
  rfl

/-- The block of the result that the second body computes at a point of its grid from the blocks of its operands. -/
def streamOut (i : grid2.Coords) (t b : S256x1.Idx → Elt F .i32) (vb vt v0 : S256x1.Idx → Elt F .f32) (p : S256x6400.Idx → Elt F .f32) :
    S256x6400.Idx → Elt F .f32 :=
  k2_pay1 (k2_pay2 v0) (k2_pay3 i) (k2_pay4 i t b vb vt p) k2_pay5

theorem stream_run (c : Dev nD) (i : grid2.Coords) (M0 : Memref sig .tc .vmem S256x1 .i32) (h0 : M0.IsWhole) (M1 : Memref sig .tc .vmem S256x1 .i32)
    (h1 : M1.IsWhole) (M2 : Memref sig .tc .vmem S256x1 .f32) (h2 : M2.IsWhole) (M3 : Memref sig .tc .vmem S256x1 .f32) (h3 : M3.IsWhole)
    (M4 : Memref sig .tc .vmem S256x1 .f32) (h4 : M4.IsWhole) (M5 : Memref sig .tc .vmem S256x6400 .f32) (h5 : M5.IsWhole)
    (M6 : Memref sig .tc .vmem S256x6400 .f32) (h6 : M6.IsWhole) (x0 x1 : S256x1.Idx → Elt F .i32) (x2 x3 x4 : S256x1.Idx → Elt F .f32)
    (x5 : S256x6400.Idx → Elt F .f32) (E : Set ℕ) (Q : PUnit → sProp 𝕄) :
    iprop(owns c M0 fullShare x0 ∗ owns c M1 fullShare x1 ∗ owns c M2 fullShare x2 ∗ owns c M3 fullShare x3 ∗ owns c M4 fullShare x4
        ∗ owns c M5 fullShare x5 ∗ (∃ y, owns c M6 fullShare y)
        ∗ (iprop(owns c M0 fullShare x0 ∗ owns c M1 fullShare x1 ∗ owns c M2 fullShare x2 ∗ owns c M3 fullShare x3 ∗ owns c M4 fullShare x4
            ∗ owns c M5 fullShare x5 ∗ owns c M6 fullShare (streamOut i x0 x1 x2 x3 x4 x5)) -∗ Q ⟨⟩))
      ⊢ wp frame (wpE (defs₀ (F := F)) 𝒱₀ (c : Thread nD τ) none) E (cc2__stream_body i M0 h0 M1 h1 M2 h2 M3 h3 M4 h4 M5 h5 M6 h6) Q := by
  unfold owns
  rw [h0.set_eq_univ, h1.set_eq_univ, h2.set_eq_univ, h3.set_eq_univ, h4.set_eq_univ, h5.set_eq_univ, h6.set_eq_univ]
  iintro ⟨⟨%f0, %e0, H0⟩, ⟨%f1, %e1, H1⟩, ⟨%f2, %e2, H2⟩, ⟨%f3, %e3, H3⟩, ⟨%f4, %e4, H4⟩, ⟨%f5, %e5, H5⟩, ⟨%y, %f6, -, H6⟩, Hk⟩
  rw [cc2__stream_body_eq_skeleton]
  unfold cc2__stream_body_skel
  rw [k2_part1_eq_skeleton]
  unfold k2_part1_skel
  sl_exec!
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; swap; · iexact H6
  ipureintro
  subst e0 e1 e2 e3 e4 e5
  rw [View.read_writes_junk_eq_canon]
  sl_unfold_words
  simp only [View.readAt_eq_ld]
  have z : (![0, 0] : Fin 2 → ℕ) = fun _ => 0 := by funext a; fin_cases a <;> rfl
  rw [View.canon_cons_unit_zero z, View.ld_unit_zero z, View.ld_unit_zero z, View.ld_unit_zero z, View.ld_unit_zero z, View.ld_unit_zero z,
    View.ld_unit_zero z]
  rfl

end Cert.Proof.Run

end
-- ==== Proof.Regions.lean ====
/-
  The proof data of the two pallas_calls from any valuation of the core's buffers: every operand's block stays as it was
  fetched, the result's block is the body's term in the operands' blocks.
-/
module

public import proofs.«01_k».proof.Proof.Bodies

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRef ucRefs afterRegion)

variable {F : FTy → Type} [FloatOps F] [Named F]

local notation "𝕄" => MT nD τ sig (HIx 1) (Elt F) ℕ UU ℕ

variable (W : Dev nD → Valuation τ sig (Elt F)) (O : CellTallies nD τ sig (HIx 1)) (b : ℕ)

/-- Proof data of the pipeline that a region does not run. -/
def junkDat (cfg : Pipeline.Cfg sig Λ₀) (c : Dev nD) : Dat τ (Elt F) (HIx 1) ℕ UU ℕ cfg c where
  A _ := fun _ => Classical.arbitrary _
  after _ _ := fun _ => Classical.arbitrary _
  Φ _ := BI.emp
  q _ := fullShare
  owed _ := 0

/-! ## The first pallas_call -/

/-- The block of window `w` of the first pallas_call. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (arrRef spec0 w)))

def dat0 (c : Dev nD) : Dat τ (Elt F) (HIx 1) ℕ UU ℕ cfg0 c where
  A w := W c (Proc.devRef .tc (arrRef spec0 w))
  after w t := match w with
    | ⟨0, _⟩ => blk0 W c 0 t
    | ⟨1, _⟩ => blk0 W c 1 t
    | ⟨2, _⟩ => blk0 W c 2 t
    | ⟨3, _⟩ => fixOut (blk0 W c 0 t) (blk0 W c 1 t) (blk0 W c 2 t)
  Φ _ := Pipeline.scopedRest spec0 c
  q _ := fullShare
  owed _ := O
  recorded _ := lowWaits (F := F) c b

theorem before0_0 (c : Dev nD) (t : Fin cfg0.N) (d) : (dat0 W O b c).before 0 t d = blk0 W c 0 t := by
  unfold Dat.before; rw [if_pos (fetch0_0 t)]; rfl
theorem before0_1 (c : Dev nD) (t : Fin cfg0.N) (d) : (dat0 W O b c).before 1 t d = blk0 W c 1 t := by
  unfold Dat.before; rw [if_pos (fetch0_1 t)]; rfl
theorem before0_2 (c : Dev nD) (t : Fin cfg0.N) (d) : (dat0 W O b c).before 2 t d = blk0 W c 2 t := by
  unfold Dat.before; rw [if_pos (fetch0_2 t)]; rfl

theorem body0 (c : Dev nD) : BodyObligation (dat0 W O b c) (defs₀ (F := F)) 𝒱₀ none Set.univ := fun t => by
  rw [bigSep_W0, bigSep_W0]
  dsimp only
  rw [show (dat0 W O b c).Φ t.castSucc = Pipeline.scopedRest spec0 c from rfl, show (dat0 W O b c).Φ t.succ = Pipeline.scopedRest spec0 c from rfl,
    show (dat0 W O b c).owesAt none t.succ = (dat0 W O b c).owesAt none t.castSucc from rfl]
  iintro ⟨HΦ, Howes, ⟨%d0, H0⟩, ⟨%d1, H1⟩, ⟨%d2, H2⟩, ⟨%d3, H3⟩⟩
  rw [before0_0 W O b c, before0_1 W O b c, before0_2 W O b c]
  iapply (fix_run c (win0_0.stage (cfg0.slots t 0)) (hstage0_0 0) (win0_1.stage (cfg0.slots t 1)) (hstage0_1 0) (win0_2.stage (cfg0.slots t 2)) (hstage0_2 0)
    (win0_3.stage (cfg0.slots t 3)) (hstage0_3 0) (blk0 W c 0 t) (blk0 W c 1 t) (blk0 W c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The second pallas_call -/

/-- The block of window `w` of the second pallas_call at a point. -/
def blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (arrRef spec2 w)))

def dat2 (c : Dev nD) : Dat τ (Elt F) (HIx 1) ℕ UU ℕ cfg2 c where
  A w := W c (Proc.devRef .tc (arrRef spec2 w))
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => streamOut (grid2.coords t) (blk2 W c 0 t) (blk2 W c 1 t) (blk2 W c 2 t) (blk2 W c 3 t) (blk2 W c 4 t) (blk2 W c 5 t)
  Φ _ := Pipeline.scopedRest spec2 c
  q _ := fullShare
  owed _ := O
  recorded _ := lowWaits (F := F) c b

theorem before2_0 (c : Dev nD) (t : Fin cfg2.N) (d) : (dat2 W O b c).before 0 t d = blk2 W c 0 t :=
  (dat2 W O b c).before_in_eq_fetched 0 rfl (fun _ => rfl) (fun _ _ _ => rfl) (fun _ => rfl) t d
theorem before2_1 (c : Dev nD) (t : Fin cfg2.N) (d) : (dat2 W O b c).before 1 t d = blk2 W c 1 t :=
  (dat2 W O b c).before_in_eq_fetched 1 rfl (fun _ => rfl) (fun _ _ _ => rfl) (fun _ => rfl) t d
theorem before2_2 (c : Dev nD) (t : Fin cfg2.N) (d) : (dat2 W O b c).before 2 t d = blk2 W c 2 t :=
  (dat2 W O b c).before_in_eq_fetched 2 rfl (fun _ => rfl) (fun _ _ _ => rfl) (fun _ => rfl) t d
theorem before2_3 (c : Dev nD) (t : Fin cfg2.N) (d) : (dat2 W O b c).before 3 t d = blk2 W c 3 t :=
  (dat2 W O b c).before_in_eq_fetched 3 rfl (fun _ => rfl) (fun _ _ _ => rfl) (fun _ => rfl) t d
theorem before2_4 (c : Dev nD) (t : Fin cfg2.N) (d) : (dat2 W O b c).before 4 t d = blk2 W c 4 t :=
  (dat2 W O b c).before_in_eq_fetched 4 rfl (fun _ => rfl) (fun _ _ _ => rfl) (fun _ => rfl) t d
theorem before2_5 (c : Dev nD) (t : Fin cfg2.N) (d) : (dat2 W O b c).before 5 t d = blk2 W c 5 t :=
  (dat2 W O b c).before_in_eq_fetched 5 rfl (fun _ => rfl) (fun _ _ _ => rfl) (fun _ => rfl) t d

theorem body2 (c : Dev nD) : BodyObligation (dat2 W O b c) (defs₀ (F := F)) 𝒱₀ none Set.univ := fun t => by
  rw [bigSep_W2, bigSep_W2]
  dsimp only
  rw [show (dat2 W O b c).Φ t.castSucc = Pipeline.scopedRest spec2 c from rfl, show (dat2 W O b c).Φ t.succ = Pipeline.scopedRest spec2 c from rfl,
    show (dat2 W O b c).owesAt none t.succ = (dat2 W O b c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before2_0 W O b c, before2_1 W O b c, before2_2 W O b c, before2_3 W O b c, before2_4 W O b c, before2_5 W O b c]
  iapply (stream_run c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4)) (hstage2_4 ((cfg2.slots t 4).cast nbuf2_4))
    (win2_5.stage (cfg2.slots t 5)) (hstage2_5 ((cfg2.slots t 5).cast nbuf2_5)) (win2_6.stage (cfg2.slots t 6)) (hstage2_6 ((cfg2.slots t 6).cast nbuf2_6))
    (blk2 W c 0 t) (blk2 W c 1 t) (blk2 W c 2 t) (blk2 W c 3 t) (blk2 W c 4 t) (blk2 W c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## The two regions -/

/-- The proof data while the first pallas_call runs, and while the second does. -/
def pd0 : Dats F
  | ⟨0, _⟩ => fun c => dat0 W O b c
  | ⟨1, _⟩ => fun c => junkDat cfg2 c
def pd2 : Dats F
  | ⟨0, _⟩ => fun c => junkDat cfg0 c
  | ⟨1, _⟩ => fun c => dat2 W O b c

theorem unscoped0 : ∀ w : Fin 4, (arrRef spec0 w).isScoped = false := by decide
theorem unscoped2 : ∀ w : Fin 7, (arrRef spec2 w).isScoped = false := by decide
theorem share0 (c : Dev nD) : ∀ w, (dat0 W O b c).share w = fullShare := (dat0 W O b c).share_full fun _ => rfl
theorem share2 (c : Dev nD) : ∀ w, (dat2 W O b c).share w = fullShare := (dat2 W O b c).share_full fun _ => rfl

variable (hO : ∀ g i, 0 < O g i → b < (K (F := F)).lev g i)

def reg0 : Pipeline.RegionSeg (pcfgs (F := F)) adm (pd0 W O b) (none : HIx 1) defs₀ 𝒱₀ (K (F := F)).L (K (F := F)).lev 0 :=
  region (pd0 W O b) 0 launch0.toP rfl (fun c => (body0 W O b c).loose) O b hO (fun _ _ => rfl) (fun _ _ => rfl)
    (share0 W O b) (fun _ _ => rfl) unscoped0 W (fun _ _ => rfl)

theorem loose2 (c : Dev nD) : Pipeline.BodyObligationLoose (dat2 W O b c) defs₀ 𝒱₀ (none : HIx 1) Set.univ := (body2 W O b c).loose
theorem owed2 (c : Dev nD) : ∀ t, (dat2 W O b c).owed t = O := fun _ => rfl
theorem recorded2 (c : Dev nD) : ∀ t, (dat2 W O b c).recorded t = lowWaits (F := F) c b := fun _ => rfl
theorem inv2 (c : Dev nD) : ∀ t, (dat2 W O b c).Φ t = Pipeline.scopedRest spec2 c := fun _ => rfl
theorem entry2 (c : Dev nD) : ∀ w, (dat2 W O b c).A w = W c (Proc.devRef .tc (arrRef spec2 w)) := fun _ => rfl

def reg2 : Pipeline.RegionSeg (pcfgs (F := F)) adm (pd2 W O b) (none : HIx 1) defs₀ 𝒱₀ (K (F := F)).L (K (F := F)).lev 1 :=
  region (pd2 W O b) 1 launch2.toP rfl (loose2 W O b) O b hO (owed2 W O b) (recorded2 W O b)
    (share2 W O b) (inv2 W O b) unscoped2 W (entry2 W O b)

end Cert.Proof.Run

end
-- ==== Proof.Main.lean ====
/-
  The run of the whole program from the launch memory: the host's reshapes, the first pallas_call, the SparseCore call,
  the host's slices, the second pallas_call. The contents of the TensorCore's buffers are followed as one valuation
  through the stretches.
-/
module

public import proofs.«01_k».proof.Proof.Regions

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat arrRef ucRefs afterRegion)

variable {F : FTy → Type} [FloatOps F] [Named F]

local notation "𝕄" => MT nD τ sig (HIx 1) (Elt F) ℕ UU ℕ

/-! ## The host's stretches -/

def ops1 : List (HloOp τ sig (Elt F)) :=
  [StableHlo.reshape main_arg0 main_v0 (rfl : (.f32 : EltTy) = .f32) shapeCasts_S4x512x32000_S2048x32000,
   StableHlo.reshape main_arg1 main_v1 (rfl : (.i32 : EltTy) = .i32) shapeCasts_S4x512_S1x2048,
   StableHlo.reshape main_arg2 main_v2 (rfl : (.i32 : EltTy) = .i32) shapeCasts_S4x512_S1x2048,
   StableHlo.reshape main_arg3 main_v3 (rfl : (.f32 : EltTy) = .f32) shapeCasts_S4x512_S1x2048]

def ops2 : List (HloOp τ sig (Elt F)) :=
  [StableHlo.reshape main_arg1 main_v5 (rfl : (.i32 : EltTy) = .i32) shapeCasts_S4x512_S2048,
   StableHlo.reshape main_arg2 main_v6 (rfl : (.i32 : EltTy) = .i32) shapeCasts_S4x512_S2048,
   StableHlo.reshape main_arg0 main_v7 (rfl : (.f32 : EltTy) = .f32) shapeCasts_S4x512x32000_S65536000]

abbrev row0 : (⟨S3x2048, .f32⟩ : BufTy).Contents (Elt F) → (⟨S1x2048, .f32⟩ : BufTy).Contents (Elt F) :=
  (extractStridedSlice S1x2048 ![0, 0] · slices_S3x2048_S1x2048_0_0)
abbrev row1 : (⟨S3x2048, .f32⟩ : BufTy).Contents (Elt F) → (⟨S1x2048, .f32⟩ : BufTy).Contents (Elt F) :=
  (extractStridedSlice S1x2048 ![1, 0] · slices_S3x2048_S1x2048_1_0)
abbrev row2 : (⟨S3x2048, .f32⟩ : BufTy).Contents (Elt F) → (⟨S1x2048, .f32⟩ : BufTy).Contents (Elt F) :=
  (extractStridedSlice S1x2048 ![2, 0] · slices_S3x2048_S1x2048_2_0)

def ops3 : List (HloOp τ sig (Elt F)) :=
  [StableHlo.unary main_v8 main_v9 row0,
   StableHlo.reshape main_v9 main_v10 (rfl : (.f32 : EltTy) = .f32) shapeCasts_S1x2048_S2048,
   StableHlo.reshape main_v10 main_v11 (rfl : (.f32 : EltTy) = .f32) shapeCasts_S2048_S2048x1,
   StableHlo.unary main_v8 main_v12 row1,
   StableHlo.reshape main_v12 main_v13 (rfl : (.f32 : EltTy) = .f32) shapeCasts_S1x2048_S2048,
   StableHlo.reshape main_v13 main_v14 (rfl : (.f32 : EltTy) = .f32) shapeCasts_S2048_S2048x1,
   StableHlo.unary main_v8 main_v15 row2,
   StableHlo.reshape main_v15 main_v16 (rfl : (.f32 : EltTy) = .f32) shapeCasts_S1x2048_S2048,
   StableHlo.reshape main_v16 main_v17 (rfl : (.f32 : EltTy) = .f32) shapeCasts_S2048_S2048x1,
   StableHlo.reshape main_arg1 main_v18 (rfl : (.i32 : EltTy) = .i32) shapeCasts_S4x512_S2048x1,
   StableHlo.reshape main_arg2 main_v19 (rfl : (.i32 : EltTy) = .i32) shapeCasts_S4x512_S2048x1]

set_option maxRecDepth 16384 in
theorem uc_pair : (∀ a ∈ [(main_arg0, main_v0), (main_arg1, main_v1), (main_arg2, main_v2), (main_arg3, main_v3), (main_arg1, main_v5), (main_arg2, main_v6),
      (main_arg0, main_v7), (main_v8, main_v9), (main_v9, main_v10), (main_v10, main_v11), (main_v8, main_v12), (main_v12, main_v13), (main_v13, main_v14),
      (main_v8, main_v15), (main_v15, main_v16), (main_v16, main_v17), (main_arg1, main_v18), (main_arg2, main_v19)],
    ({Proc.devRef .tc a.1, Proc.devRef .tc a.2} : Finset (DevRef τ sig)) ⊆ ucRefs τ sig) := by decide +kernel

theorem bufs1 : ∀ op ∈ ops1 (F := F), op.bufs ⊆ ucRefs τ sig := by
  intro op h
  simp only [ops1, List.mem_cons, List.not_mem_nil, or_false] at h
  rcases h with rfl | rfl | rfl | rfl
  · exact uc_pair (main_arg0, main_v0) (by simp)
  · exact uc_pair (main_arg1, main_v1) (by simp)
  · exact uc_pair (main_arg2, main_v2) (by simp)
  · exact uc_pair (main_arg3, main_v3) (by simp)
theorem bufs2 : ∀ op ∈ ops2 (F := F), op.bufs ⊆ ucRefs τ sig := by
  intro op h
  simp only [ops2, List.mem_cons, List.not_mem_nil, or_false] at h
  rcases h with rfl | rfl | rfl
  · exact uc_pair (main_arg1, main_v5) (by simp)
  · exact uc_pair (main_arg2, main_v6) (by simp)
  · exact uc_pair (main_arg0, main_v7) (by simp)
theorem bufs3 : ∀ op ∈ ops3 (F := F), op.bufs ⊆ ucRefs τ sig := by
  intro op h
  simp only [ops3, List.mem_cons, List.not_mem_nil, or_false] at h
  rcases h with rfl | rfl | rfl | rfl | rfl | rfl | rfl | rfl | rfl | rfl | rfl
  · exact uc_pair (main_v8, main_v9) (by simp)
  · exact uc_pair (main_v9, main_v10) (by simp)
  · exact uc_pair (main_v10, main_v11) (by simp)
  · exact uc_pair (main_v8, main_v12) (by simp)
  · exact uc_pair (main_v12, main_v13) (by simp)
  · exact uc_pair (main_v13, main_v14) (by simp)
  · exact uc_pair (main_v8, main_v15) (by simp)
  · exact uc_pair (main_v15, main_v16) (by simp)
  · exact uc_pair (main_v16, main_v17) (by simp)
  · exact uc_pair (main_arg1, main_v18) (by simp)
  · exact uc_pair (main_arg2, main_v19) (by simp)
theorem fresh1 : ∀ op ∈ ops1 (F := F), op.fresh = ∅ := by
  intro op h
  simp only [ops1, List.mem_cons, List.not_mem_nil, or_false] at h
  rcases h with rfl | rfl | rfl | rfl <;> rfl
theorem fresh2 : ∀ op ∈ ops2 (F := F), op.fresh = ∅ := by
  intro op h
  simp only [ops2, List.mem_cons, List.not_mem_nil, or_false] at h
  rcases h with rfl | rfl | rfl <;> rfl
theorem fresh3 : ∀ op ∈ ops3 (F := F), op.fresh = ∅ := by
  intro op h
  simp only [ops3, List.mem_cons, List.not_mem_nil, or_false] at h
  rcases h with rfl | rfl | rfl | rfl | rfl | rfl | rfl | rfl | rfl | rfl | rfl <;> rfl

theorem main_eq (d : Dev nD) : main (F := F) d = (do
    StableHlo.seq ops1
    Prog.lift (.customCall (SparseCore.inner (Pipeline.entry 0)) ())
    StableHlo.seq ops2
    sc.run d 0
    StableHlo.seq ops3
    Prog.lift (.customCall (SparseCore.inner (Pipeline.entry 1)) ())
    pure ⟨⟩) := rfl

/-! ## The valuations between them -/

variable (m : (ℓ : Loc nD τ sig) → Buf (Elt F) ℓ) (ρ : Dev nD → PrngReg)

def V0 (d : Dev nD) : Valuation τ sig (Elt F) := fun b => m (d, b)
def V1 (d : Dev nD) : Valuation τ sig (Elt F) := StableHlo.after ops1 (V0 m d)
/-- What the core owes while the first pallas_call runs, and while the second does. -/
abbrev owe (d : Dev nD) (n : ℕ) : CellTallies nD τ sig (HIx 1) := (K (F := F)).Otc d n
abbrev lvl (n : ℕ) : ℕ := 8 * n
def V2 (d : Dev nD) : Valuation τ sig (Elt F) := afterRegion (dat0 (V1 m) (owe (F := F) d 0) (lvl 0) d) (V1 m d)
def V3 (d : Dev nD) : Valuation τ sig (Elt F) := StableHlo.after ops2 (V2 m d)
def X (d : Dev nD) : Ops F where
  t := V3 m d (Proc.devRef .tc main_v5)
  b := V3 m d (Proc.devRef .tc main_v6)
  tab := V3 m d (Proc.devRef .tc main_v4)
  p := V3 m d (Proc.devRef .tc main_v7)
  o := V3 m d (Proc.devRef .tc main_v8)
def V4 (d : Dev nD) : Valuation τ sig (Elt F) := Function.update (V3 m d) (Proc.devRef .tc main_v8) (scOut (X m d))
def V5 (d : Dev nD) : Valuation τ sig (Elt F) := StableHlo.after ops3 (V4 m d)
def V6 (d : Dev nD) : Valuation τ sig (Elt F) := afterRegion (dat2 (V5 m) (owe (F := F) d 1) (lvl 1) d) (V5 m d)

/-! ## The two pallas_calls, entered from the program of the SparseCore's configuration -/

theorem owe_pos (d : Dev nD) (n : ℕ) : ∀ g i, 0 < owe (F := F) d n g i → lvl n < (K (F := F)).lev g i := fun _ _ h =>
  lt_of_lt_of_le (Nat.lt_succ_self _) (SparseCore.Cfg.lev_of_Otc_pos h)

abbrev ghostP (p : Fin 2) (c : Dev nD) : sProp 𝕄 :=
  iprop(Pipeline.cellsGhost (Pipeline.pin (pcfgs (F := F)) adm) EP p c ∗ Pipeline.toksInit (Pipeline.pin (pcfgs (F := F)) adm) EP p c)

theorem pinned_inj : Function.Injective (Pipeline.cellOf (nD := nD) (τ := τ) (Pipeline.pin (pcfgs (F := F)) adm)) := cellOf_inj

theorem enter0 (W : Dev nD → Valuation τ sig (Elt F)) (O : CellTallies nD τ sig (HIx 1)) (b : ℕ) (hO : ∀ g i, 0 < O g i → b < (K (F := F)).lev g i)
    (d : Dev nD) (Q : PUnit.{1} → sProp 𝕄) :
    iprop(((boundary (T d) ∗ heldAt d (afterRegion (dat0 W O b d) (W d)) O b) -∗ Q ⟨⟩)
        ∗ boundary (T d) ∗ heldAt d (W d) O b ∗ levAts (K (F := F)).L (K (F := F)).lev ∗ ghostP 0 d)
      ⊢ wp frame (wpE ((K (F := F)).defs (D (F := F))) 𝒱 (T d) none) Set.univ
          (Prog.lift (.customCall (SparseCore.inner (Pipeline.entry 0)) ())) Q := by
  have h := Pipeline.RegionSeg.wp (pcfgs (F := F)) adm (pd0 W O b) (none : HIx 1) pinned_inj EP defs₀ 𝒱₀ (K (F := F)).L (K (F := F)).lev
    (reg0 W O b hO) d none (fun _ h => nomatch h) (fun x => .ret x) Q
  have h2 := (K (F := F)).wp_liftProg (D (F := F)) 𝒱 (T d) Set.univ none (.op (.customCall (Pipeline.entry 0) ()) fun x => .ret x) Q
  have h3 : iprop(((boundary (T d) ∗ heldAt d (afterRegion (dat0 W O b d) (W d)) O b) -∗ wp frame (wpE (D (F := F)) 𝒱 (T d) none) Set.univ (.ret ⟨⟩) Q)
        ∗ boundary (T d) ∗ heldAt d (W d) O b ∗ levAts (K (F := F)).L (K (F := F)).lev ∗ ghostP 0 d)
      ⊢ wp frame (wpE ((K (F := F)).defs (D (F := F))) 𝒱 (T d) none) Set.univ
          (Prog.lift (.customCall (SparseCore.inner (Pipeline.entry 0)) ())) Q := h.trans h2
  refine BIBase.Entails.trans ?_ h3
  iintro ⟨Hk, H⟩
  isplitl [Hk]
  · rw [wp_ret]
    iintro H; imodintro; iapply Hk; iexact H
  iexact H

theorem enter2 (W : Dev nD → Valuation τ sig (Elt F)) (O : CellTallies nD τ sig (HIx 1)) (b : ℕ) (hO : ∀ g i, 0 < O g i → b < (K (F := F)).lev g i)
    (d : Dev nD) (Q : PUnit.{1} → sProp 𝕄) :
    iprop(((boundary (T d) ∗ heldAt d (afterRegion (dat2 W O b d) (W d)) O b) -∗ Q ⟨⟩)
        ∗ boundary (T d) ∗ heldAt d (W d) O b ∗ levAts (K (F := F)).L (K (F := F)).lev ∗ ghostP 1 d)
      ⊢ wp frame (wpE ((K (F := F)).defs (D (F := F))) 𝒱 (T d) none) Set.univ
          (Prog.lift (.customCall (SparseCore.inner (Pipeline.entry 1)) ())) Q := by
  have h := Pipeline.RegionSeg.wp (pcfgs (F := F)) adm (pd2 W O b) (none : HIx 1) pinned_inj EP defs₀ 𝒱₀ (K (F := F)).L (K (F := F)).lev
    (reg2 W O b hO) d none (fun _ h => nomatch h) (fun x => .ret x) Q
  have h2 := (K (F := F)).wp_liftProg (D (F := F)) 𝒱 (T d) Set.univ none (.op (.customCall (Pipeline.entry 1) ()) fun x => .ret x) Q
  have h3 : iprop(((boundary (T d) ∗ heldAt d (afterRegion (dat2 W O b d) (W d)) O b) -∗ wp frame (wpE (D (F := F)) 𝒱 (T d) none) Set.univ (.ret ⟨⟩) Q)
        ∗ boundary (T d) ∗ heldAt d (W d) O b ∗ levAts (K (F := F)).L (K (F := F)).lev ∗ ghostP 1 d)
      ⊢ wp frame (wpE ((K (F := F)).defs (D (F := F))) 𝒱 (T d) none) Set.univ
          (Prog.lift (.customCall (SparseCore.inner (Pipeline.entry 1)) ())) Q := h.trans h2
  refine BIBase.Entails.trans ?_ h3
  iintro ⟨Hk, H⟩
  isplitl [Hk]
  · rw [wp_ret]
    iintro H; imodintro; iapply Hk; iexact H
  iexact H

/-! ## The SparseCore call's operands, out of the buffers held -/

def callRefs : Finset (DevRef τ sig) :=
  {Proc.devRef .tc main_v5, Proc.devRef .tc main_v6, Proc.devRef .tc main_v4, Proc.devRef .tc main_v7, Proc.devRef .tc main_v8}

set_option maxRecDepth 16384 in
theorem callRefs_sub : callRefs ⊆ ucRefs τ sig := by decide +kernel

set_option maxRecDepth 16384 in
theorem held_callRefs (d : Dev nD) (W : Valuation τ sig (Elt F)) :
    (StableHlo.held (d.tc : Thread nD τ) callRefs W : sProp 𝕄)
      = iprop((tLoc d ↦{fullShare} W (Proc.devRef .tc main_v5)) ∗ (bLoc d ↦{fullShare} W (Proc.devRef .tc main_v6))
          ∗ (tabLoc d ↦{fullShare} W (Proc.devRef .tc main_v4)) ∗ (pLoc d ↦{fullShare} W (Proc.devRef .tc main_v7)) ∗ oLoc d ↦{fullShare} W (Proc.devRef .tc main_v8)) := by
  unfold StableHlo.held callRefs
  rw [SparseCore.bigSep_insert' (by decide), SparseCore.bigSep_insert' (by decide), SparseCore.bigSep_insert' (by decide),
    SparseCore.bigSep_insert' (by decide), bigSep_singleton]

theorem V4_ne (d : Dev nD) (r : Ref sig .tc) (h : Proc.devRef .tc r ≠ (Proc.devRef .tc main_v8 : DevRef τ sig)) :
    V4 m d (Proc.devRef .tc r) = V3 m d (Proc.devRef .tc r) := Function.update_of_ne h _ _
theorem V4_out (d : Dev nD) : V4 m d (Proc.devRef .tc main_v8) = scOut (X m d) := Function.update_self _ _ _

theorem call_in (d : Dev nD) : (StableHlo.held (d.tc : Thread nD τ) callRefs (V3 m d) : sProp 𝕄) ⊢ callPts (X m) d (X m d).o := by
  rw [held_callRefs]; unfold callPts inPts X
  iintro ⟨H1, H2, H3, H4, H5⟩
  isplitl [H1 H2 H3 H4]
  · isplitl [H1]; · iexact H1
    isplitl [H2]; · iexact H2
    isplitl [H3]; · iexact H3
    iexact H4
  iexact H5

theorem call_out (d : Dev nD) : callPts (X m) d (scOut (X m d)) ⊢ (StableHlo.held (d.tc : Thread nD τ) callRefs (V4 m d) : sProp 𝕄) := by
  rw [held_callRefs, V4_ne m d main_v5 (by decide), V4_ne m d main_v6 (by decide), V4_ne m d main_v4 (by decide), V4_ne m d main_v7 (by decide), V4_out]
  unfold callPts inPts
  iintro ⟨⟨H1, H2, H3, H4⟩, H5⟩
  isplitl [H1]; · iexact H1
  isplitl [H2]; · iexact H2
  isplitl [H3]; · iexact H3
  isplitl [H4]; · iexact H4
  iexact H5

theorem rest_same (d : Dev nD) : (StableHlo.held (d.tc : Thread nD τ) (ucRefs τ sig \ callRefs) (V3 m d) : sProp 𝕄)
    = StableHlo.held (d.tc : Thread nD τ) (ucRefs τ sig \ callRefs) (V4 m d) :=
  StableHlo.held_congr _ fun r hr => (Function.update_of_ne (fun e => (Finset.mem_sdiff.mp hr).2 (by rw [e]; decide)) _ _).symm

/-! ## The entry function on the TensorCore -/

abbrev FIN (d : Dev nD) : sProp 𝕄 := StableHlo.held (d.tc : Thread nD τ) (ucRefs τ sig) (V6 m d)
abbrev G (d : Dev nD) : sProp 𝕄 := iprop(ghostP (F := F) 0 d ∗ ghostP 1 d)

theorem launch_held (d : Dev nD) : (unscopedBufs d (fun b => m ((SparseCore.T d : Thread nD τ).loc b)) : sProp 𝕄) = StableHlo.held (d.tc : Thread nD τ) (ucRefs τ sig) (V0 m d) := by
  have e := Pipeline.unscopedBufs_held (Ix := HIx 1) (Name := ℕ) (U := UU) (Lvl := ℕ) d (V0 m d)
  rw [← e]
  exact congrArg (unscopedBufs d) rfl

/-- What the core keeps of the handshakes beside what it owes. -/
abbrev stRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_split (d : Dev nD) (n : ℕ) :
    ((K (F := F)).tcSt EH d n : sProp 𝕄) = iprop(owesBelow d (owe (F := F) d n) (lvl n) ∗ stRest (F := F) d n) := rfl

theorem hmain (κ : GSem nD τ sig → ℕ) (d : Dev nD) :
    iprop((K (F := F)).ctx EH (P (X m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  rw [main_eq]
  unfold SparseCore.Cfg.tcRes SparseCore.Cfg.tcEnd
  rw [launch_held]
  iintro ⟨#Hctx, Hst, ⟨Hb, Hbufs, Hts, -⟩, ⟨HG0, HG2⟩⟩
  ihave #Hlev := (SparseCore.Cfg.ctx_levAts κ) $$ Hctx
  iapply (StableHlo.wp_seq 𝒱 none Set.univ d (ucRefs τ sig) _ ops1 bufs1 fresh1 (V0 m d)) $$ [Hb Hbufs]
  · isplitl [Hb] <;> iassumption
  rw [show StableHlo.after ops1 (V0 m d) = V1 m d from rfl]
  iintro ⟨Hb, Hbufs⟩
  rw [wp_bind]
  ihave Hst := (Entails.of_eq (tcSt_split d 0)) $$ Hst
  icases Hst with ⟨HO, Hst⟩
  iapply (enter0 (V1 m) (owe (F := F) d 0) (lvl 0) (owe_pos d 0) d _)
  rw [show afterRegion (dat0 (V1 m) (owe (F := F) d 0) (lvl 0) d) (V1 m d) = V2 m d from rfl]
  isplitr [Hb Hbufs HO HG0]
  · iintro ⟨Hb, H⟩
    unfold heldAt
    icases H with ⟨Hbufs, HO⟩
    iapply (StableHlo.wp_seq 𝒱 none Set.univ d (ucRefs τ sig) _ ops2 bufs2 fresh2 (V2 m d)) $$ [Hb Hbufs]
    · isplitl [Hb] <;> iassumption
    rw [show StableHlo.after ops2 (V2 m d) = V3 m d from rfl]
    iintro ⟨Hb, Hbufs⟩
    rw [wp_bind]
    ihave Hbufs := (Entails.of_eq (StableHlo.held_sub_split (d.tc : Thread nD τ) callRefs_sub (V3 m d))) $$ Hbufs
    icases Hbufs with ⟨Hc, Hrest⟩
    iapply ((K (F := F)).wp_run (D (F := F)) 𝒱 (EH := EH) (P := P (X m)) κ d 0) $$ [Hst HO Hc Hrest Hb Hts HG2]
    isplitr; · iexact Hctx
    isplitl [Hst HO]
    · iapply (Entails.of_eq (tcSt_split d 0).symm)
      isplitl [HO]; · iexact HO
      iexact Hst
    isplitl [Hc]
    · rw [start_eq]
      iapply (call_in m d) $$ Hc
    iintro ⟨Hst, Hdn⟩
    ihave Hdn := (Entails.of_eq (done_eq (X m) d)) $$ Hdn
    ihave Hc := (call_out m d) $$ Hdn
    ihave Hrest := (Entails.of_eq (rest_same m d)) $$ Hrest
    ihave Hbufs := (Entails.of_eq (StableHlo.held_sub_split (d.tc : Thread nD τ) callRefs_sub (V4 m d)).symm) $$ [Hc Hrest]
    · isplitl [Hc] <;> iassumption
    iapply (StableHlo.wp_seq 𝒱 none Set.univ d (ucRefs τ sig) _ ops3 bufs3 fresh3 (V4 m d)) $$ [Hb Hbufs]
    · isplitl [Hb] <;> iassumption
    rw [show StableHlo.after ops3 (V4 m d) = V5 m d from rfl]
    iintro ⟨Hb, Hbufs⟩
    rw [wp_bind]
    ihave Hst := (Entails.of_eq (show ((K (F := F)).tcSt EH d ((0 : Fin 1).val + 1) : sProp 𝕄) = iprop(owesBelow d (owe (F := F) d 1) (lvl 1) ∗ stRest (F := F) d 1)
      from tcSt_split d 1)) $$ Hst
    icases Hst with ⟨HO, Hst⟩
    iapply (enter2 (V5 m) (owe (F := F) d 1) (lvl 1) (owe_pos d 1) d _)
    rw [show afterRegion (dat2 (V5 m) (owe (F := F) d 1) (lvl 1) d) (V5 m d) = V6 m d from rfl]
    isplitr [Hb Hbufs HO HG2]
    · iintro ⟨Hb, H⟩
      unfold heldAt
      icases H with ⟨Hbufs, HO⟩
      rw [wp_pure]
      imodintro
      isplitl [Hst HO]
      · iapply (Entails.of_eq (tcSt_split d 1).symm)
        isplitl [HO]; · iexact HO
        iexact Hst
      isplitl [Hbufs]; · iexact Hbufs
      isplitl [Hb] <;> iassumption
    isplitl [Hb]; · iexact Hb
    isplitl [Hbufs HO]
    · unfold heldAt
      isplitl [Hbufs]; · iexact Hbufs
      iexact HO
    isplitr; · iexact Hlev
    iexact HG2
  isplitl [Hb]; · iexact Hb
  isplitl [Hbufs HO]
  · unfold heldAt
    isplitl [Hbufs]; · iexact Hbufs
    iexact HO
  isplitr; · iexact Hlev
  iexact HG0

/-- What the core's buffers hold at the end. -/
def fq (d : Dev nD) (s' : Phys nD τ sig (Elt F)) : Prop := ∀ r ∈ ucRefs τ sig, s'.mem.mem (d, r) = V6 m d r

theorem hfin_at (d : Dev nD) (s' : Phys nD τ sig (Elt F)) (r : DevRef τ sig) :
    iprop(FIN m d ∗ SI s') ⊢ (⌜r ∈ ucRefs τ sig → s'.mem.mem (d, r) = V6 m d r⌝ : sProp 𝕄) := by
  by_cases hr : r ∈ ucRefs τ sig
  · unfold FIN
    rw [StableHlo.held_sub_split (d.tc : Thread nD τ) (Finset.singleton_subset_iff.mpr hr) (V6 m d)]
    unfold StableHlo.held
    rw [bigSep_singleton]
    iintro ⟨⟨H, -⟩, HSI⟩
    ihave H := (SI_pointsTo_agree (st := s') (ℓ := (d, r)) (I := Finset.univ) (q := fullShare) (f := V6 m d r)) $$ [HSI H]
    · isplitl [HSI] <;> iassumption
    icases H with %h
    ipureintro; exact fun _ => funext fun i => h i (Finset.mem_univ i)
  · iintro -
    ipureintro; exact fun h => absurd h hr

theorem hfin (d : Dev nD) (s' : Phys nD τ sig (Elt F)) : iprop(FIN m d ∗ SI s') ⊢ (⌜fq m d s'⌝ : sProp 𝕄) := by
  unfold fq
  refine BIBase.Entails.trans (forall_intro fun r => hfin_at m d s' r) pure_forall.2

/-! ## The launch's ghost state -/

abbrev cellsP : UP := initOf (Pipeline.cells (nD := nD) (τ := τ) (Pipeline.pin (pcfgs (F := F)) adm) pinned_inj)
  (Pipeline.launchToks (nD := nD) (τ := τ) (Pipeline.pin (pcfgs (F := F)) adm) pinned_inj)
def u₀ : UU := (initOf (K (F := F)).hsCells (K (F := F)).hsToks, (cellsP (F := F), 1))

theorem pair_eq (Φ : Fin 2 → sProp 𝕄) : bigSep Finset.univ Φ = iprop(Φ 0 ∗ Φ 1) := by
  rw [show (Finset.univ : Finset (Fin 2)) = {0, 1} from rfl, SparseCore.bigSep_insert' (by decide), bigSep_singleton]

theorem ghost_deal : (BI.own (EP (cellsP (F := F))) : sProp 𝕄) ⊢ |==> bigSep Finset.univ (G (F := F)) := by
  refine (Pipeline.fund_ghost (Pipeline.pin (pcfgs (F := F)) adm) EP pinned_inj).trans (bupd_mono ?_)
  simp only [pair_eq, bigSep_sep']
  show BIBase.Entails (PROP := sProp 𝕄) _ _
  iintro ⟨⟨H1, H2⟩, H3, H4⟩
  isplitl [H1 H3]
  · isplitl [H1] <;> iassumption
  · isplitl [H2] <;> iassumption

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (X m)).x q thr) := by
  unfold u₀
  iintro Hu
  ihave H := (ownU_pair (initOf (K (F := F)).hsCells (K (F := F)).hsToks) ((cellsP (F := F), (1 : Counters)) : UP × Counters)) $$ Hu
  icases H with ⟨HH, HR⟩
  ihave H := (own_pair_emb embR (cellsP (F := F)) (1 : Counters)) $$ HR
  icases H with ⟨HP, -⟩
  imod (ghost_deal (F := F)) $$ HP with HG
  imodintro
  isplitl [HH]; · iexact HH
  isplitl [HG]; · iexact HG
  rw [show (bigSep Finset.univ fun thr : Thread nD τ => bigSep Finset.univ fun q : Fin 1 => (P (X m)).x q thr) = bigSep Finset.univ fun _ => (BI.emp : sProp 𝕄) from
    bigSep_congr fun _ _ => bigSep_univ_of_subsingleton (0 : Fin 1), bigSep_emp_const]
  iempintro

/-! ## The run -/

/-- Every buffer the core's program names, at the end: the last valuation; every semaphore at zero. -/
def QC : PUnit × MemSt nD τ sig (Elt F) → Prop := fun r => (∀ d : Dev nD, ∀ b ∈ ucRefs τ sig, r.2.mem (d, b) = V6 m d b) ∧ r.2.sem = fun _ => 0

theorem run_main [∀ e, Nonempty (Elt F e)] (hX : ∀ d, InVocab (X m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m)) (A := ∅) facts v₀
    (fun q hq => match q with | 0 => nomatch hq)
    (fun q _ => match q with | 0 => tileObl (X m) facts hX)
    (fun q _ => match q with | 0 => SparseCore.Cfg.VecSplit.of_plain (vecSplit (X m)))
    m ρ main (G (F := F)) (FIN m) (u₀ (F := F)) (sep_elim_left.trans (hu₀ m)) (hmain m ρ) (fq m) (hfin m) (QC m) (fun _ h hz => ⟨h, hz⟩)

end Cert.Proof.Run

end
-- ==== Proof.Contents.lean ====
/-
  What the buffers hold along the run, as functions of the arguments: the arguments themselves at the end, and the
  operands of the three calls.
-/
module

public import proofs.«01_k».proof.Proof.Main

@[expose] public section

noncomputable section

namespace Cert.Proof.Run

open Cert.KernelIdeal Cert.KernelIdeal.Gen

open Idealize.ShloMosaic
open Idealize.ShloMosaic.TcCoe Idealize.ShloMosaic.Tactic
open Idealize.SL.Sem
open Idealize.ShloMosaic.Pipeline (Dat arrRef ucRefs afterRegion)

variable {F : FTy → Type} [FloatOps F] [Named F]

variable (m : (ℓ : Loc nD τ sig) → Buf (Elt F) ℓ) (d : Dev nD)

/-! ## What each stretch leaves alone -/

theorem V1_keep (r : Ref sig .tc) (h : ∀ y ∈ [main_v0, main_v1, main_v2, main_v3], r ≠ y) :
    V1 m d (Proc.devRef .tc r) = m (d, Proc.devRef .tc r) := by
  unfold V1 ops1
  simp only [StableHlo.after_cons, StableHlo.after_nil]
  rw [StableHlo.reshape_result_ne (h := h main_v3 (by simp)), StableHlo.reshape_result_ne (h := h main_v2 (by simp)),
    StableHlo.reshape_result_ne (h := h main_v1 (by simp)), StableHlo.reshape_result_ne (h := h main_v0 (by simp))]
  rfl

theorem V3_keep (r : Ref sig .tc) (h : ∀ y ∈ [main_v5, main_v6, main_v7], r ≠ y) :
    V3 m d (Proc.devRef .tc r) = V2 m d (Proc.devRef .tc r) := by
  unfold V3 ops2
  simp only [StableHlo.after_cons, StableHlo.after_nil]
  rw [StableHlo.reshape_result_ne (h := h main_v7 (by simp)), StableHlo.reshape_result_ne (h := h main_v6 (by simp)),
    StableHlo.reshape_result_ne (h := h main_v5 (by simp))]

theorem V5_keep (r : Ref sig .tc) (h : ∀ y ∈ [main_v9, main_v10, main_v11, main_v12, main_v13, main_v14, main_v15, main_v16, main_v17, main_v18, main_v19], r ≠ y) :
    V5 m d (Proc.devRef .tc r) = V4 m d (Proc.devRef .tc r) := by
  unfold V5 ops3
  simp only [StableHlo.after_cons, StableHlo.after_nil]
  rw [StableHlo.reshape_result_ne (h := h main_v19 (by simp)), StableHlo.reshape_result_ne (h := h main_v18 (by simp)),
    StableHlo.reshape_result_ne (h := h main_v17 (by simp)), StableHlo.reshape_result_ne (h := h main_v16 (by simp)),
    StableHlo.unary_result_ne (h := h main_v15 (by simp)), StableHlo.reshape_result_ne (h := h main_v14 (by simp)),
    StableHlo.reshape_result_ne (h := h main_v13 (by simp)), StableHlo.unary_result_ne (h := h main_v12 (by simp)),
    StableHlo.reshape_result_ne (h := h main_v11 (by simp)), StableHlo.reshape_result_ne (h := h main_v10 (by simp)),
    StableHlo.unary_result_ne (h := h main_v9 (by simp))]

theorem V2_keep (r : Ref sig .tc) (h : ∀ w, r ≠ arrRef cfg0.spec w) :
    V2 m d (Proc.devRef .tc r) = V1 m d (Proc.devRef .tc r) :=
  Pipeline.afterRegion_of_not_arr _ _ h

theorem V6_keep (r : Ref sig .tc) (h : ∀ w, r ≠ arrRef cfg2.spec w) :
    V6 m d (Proc.devRef .tc r) = V5 m d (Proc.devRef .tc r) :=
  Pipeline.afterRegion_of_not_arr _ _ h

/-- A buffer that nothing of the program writes. -/
def Apart (r : Ref sig .tc) : Prop :=
  (∀ y ∈ [main_v0, main_v1, main_v2, main_v3, main_v5, main_v6, main_v7, main_v8, main_v9, main_v10, main_v11, main_v12, main_v13, main_v14,
      main_v15, main_v16, main_v17, main_v18, main_v19], r ≠ y)
    ∧ (∀ w, r ≠ arrRef spec0 w)
    ∧ ∀ w, r ≠ arrRef spec2 w

theorem apart0 : Apart main_arg0 := by unfold Apart; decide +kernel
theorem apart1 : Apart main_arg1 := by unfold Apart; decide +kernel
theorem apart2 : Apart main_arg2 := by unfold Apart; decide +kernel
theorem apart3 : Apart main_arg3 := by unfold Apart; decide +kernel

section
variable {m d} {r : Ref sig .tc} (h : Apart r)
include h

theorem V2_apart : V2 m d (Proc.devRef .tc r) = m (d, Proc.devRef .tc r) := by
  rw [V2_keep m d r h.2.1, V1_keep m d r fun y hy => h.1 y (by simp only [List.mem_cons, List.not_mem_nil, or_false] at hy ⊢; tauto)]

theorem V4_apart : V4 m d (Proc.devRef .tc r) = m (d, Proc.devRef .tc r) := by
  rw [V4_ne m d r (StableHlo.devRef_ne_of_ne (h.1 main_v8 (by simp))), V3_keep m d r fun y hy => h.1 y (by simp only [List.mem_cons, List.not_mem_nil, or_false] at hy ⊢; tauto),
    V2_apart h]

theorem V6_apart : V6 m d (Proc.devRef .tc r) = m (d, Proc.devRef .tc r) := by
  rw [V6_keep m d r h.2.2, V5_keep m d r fun y hy => h.1 y (by simp only [List.mem_cons, List.not_mem_nil, or_false] at hy ⊢; tauto), V4_apart h]

end

/-! ## The operands of the SparseCore call -/

theorem X_t : (X m d).t = shapeCast S2048 (m (d, Proc.devRef .tc main_arg1)) shapeCasts_S4x512_S2048 := by
  show V3 m d (Proc.devRef .tc main_v5) = _
  unfold V3 ops2
  simp only [StableHlo.after_cons, StableHlo.after_nil]
  rw [StableHlo.reshape_result_ne (h := by decide), StableHlo.reshape_result_ne (h := by decide), StableHlo.reshape_result, V2_apart apart1]
  rfl

theorem X_b : (X m d).b = shapeCast S2048 (m (d, Proc.devRef .tc main_arg2)) shapeCasts_S4x512_S2048 := by
  show V3 m d (Proc.devRef .tc main_v6) = _
  unfold V3 ops2
  simp only [StableHlo.after_cons, StableHlo.after_nil]
  rw [StableHlo.reshape_result_ne (h := by decide), StableHlo.reshape_result, StableHlo.reshape_result_ne (h := by decide), V2_apart apart2]
  rfl

theorem X_p : (X m d).p = shapeCast S65536000 (m (d, Proc.devRef .tc main_arg0)) shapeCasts_S4x512x32000_S65536000 := by
  show V3 m d (Proc.devRef .tc main_v7) = _
  unfold V3 ops2
  simp only [StableHlo.after_cons, StableHlo.after_nil]
  rw [StableHlo.reshape_result, StableHlo.reshape_result_ne (h := by decide), StableHlo.reshape_result_ne (h := by decide), V2_apart apart0]
  rfl

theorem X_tab : (X m d).tab = V2 m d (Proc.devRef .tc main_v4) := V3_keep m d main_v4 (by decide)

/-- Targets in the vocabulary are in it after the host has laid them out in one row. -/
theorem inVocab (h1 : ∀ i, (m (d, Proc.devRef .tc main_arg1) i : BitVec 32).toNat < 32000)
    (h2 : ∀ i, (m (d, Proc.devRef .tc main_arg2) i : BitVec 32).toNat < 32000) : InVocab (X m d) := by
  unfold InVocab
  rw [X_t, X_b]
  exact ⟨fun j => h1 _, fun j => h2 _⟩

/-! ## The arguments at the end of the run -/

set_option maxRecDepth 16384 in
theorem uc_args : ∀ r ∈ [main_arg0, main_arg1, main_arg2, main_arg3, main_v20], (Proc.devRef .tc r : DevRef τ sig) ∈ ucRefs τ sig := by decide +kernel

theorem end_of (r : PUnit × MemSt nD τ sig (Elt F)) (h : QC m r) (b : Ref sig .tc) (hb : (Proc.devRef .tc b : DevRef τ sig) ∈ ucRefs τ sig) :
    r.2.mem ((d.tc : Thread nD τ).loc b) = V6 m d (Proc.devRef .tc b) := h.1 d _ hb

theorem end_args (r : PUnit × MemSt nD τ sig (Elt F)) (h : QC m r) :
    r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3) :=
  ⟨(end_of m d r h main_arg0 (uc_args _ (by simp))).trans (V6_apart apart0), (end_of m d r h main_arg1 (uc_args _ (by simp))).trans (V6_apart apart1),
    (end_of m d r h main_arg2 (uc_args _ (by simp))).trans (V6_apart apart2), (end_of m d r h main_arg3 (uc_args _ (by simp))).trans (V6_apart apart3)⟩

end Cert.Proof.Run

end
-- ==== Proof.Precondition.lean ====
/-
  What the two preconditions say of the arguments: each target lies in the vocabulary, and each offset lies in [0, 1].
-/
module

public import proofs.«01_k».proof.Defs
public import proofs.«01_k».proof.Proof.Gen.Pre_targets_in_vocab
public import proofs.«01_k».proof.Proof.Gen.Pre_in_range
public import Idealize.ShloMosaic.Lib.ReduceAll
public import Idealize.ShloMosaic.Lib.IdealHost

@[expose] public section

noncomputable section

namespace Cert.Proof.Pre

open Idealize.ShloMosaic

abbrev S4x512 : Shape := Cert.Pre_in_range.S4x512

theorem of_bit {b : Bool} (h : BitVec.ofBool b = 1#1) : b = true := by cases b with | true => rfl | false => exact absurd h (by decide)

/-- A signed word between 0 and 32000 reads below 32000. -/
theorem word_lt (x : BitVec 32) (e : IntOp.andi (IntOp.cmpi .sge x 0#32) (IntOp.cmpi .slt x 32000#32) = 1#1) : x.toNat < 32000 := by
  obtain ⟨h1, h2⟩ := IntOp.andi_eq_one.1 e
  have a : BitVec.sle 0#32 x = true := of_bit h1
  have b : BitVec.slt x 32000#32 = true := of_bit h2
  rw [BitVec.sle_eq_decide, decide_eq_true_eq] at a
  rw [BitVec.slt_eq_decide, decide_eq_true_eq] at b
  have c := BitVec.toInt_eq_toNat_cond x
  have z : (0#32 : BitVec 32).toInt = 0 := by decide
  have y : (32000#32 : BitVec 32).toInt = 32000 := by decide
  have w := x.isLt
  rw [z] at a
  rw [y] at b
  split at c <;> omega

instance : Subsingleton Cert.Pre_in_range.S_.Idx := ⟨fun _ _ => funext fun a => a.elim0⟩
instance : Subsingleton Cert.Pre_targets_in_vocab.S_.Idx := ⟨fun _ _ => funext fun a => a.elim0⟩

variable {F : FTy → Type} [FloatOps F]

/-- The targets' precondition: both rows of targets lie in the vocabulary. -/
theorem targets (a0 : FVec F Cert.Pre_targets_in_vocab.S4x512x32000 .f32) (a1 a2 : IVec Cert.Pre_targets_in_vocab.S4x512 32)
    (a3 : FVec F Cert.Pre_targets_in_vocab.S4x512 .f32) (h : Cert.Pre_targets_in_vocab.fn a0 a1 a2 a3 = fun _ => 1#1) :
    (∀ i, (a1 i).toNat < 32000) ∧ ∀ i, (a2 i).toNat < 32000 := by
  have e := congrFun h (fun a => a.elim0)
  unfold Cert.Pre_targets_in_vocab.fn at e
  obtain ⟨e1, e2⟩ := IntOp.andi_eq_one.1 e
  exact ⟨fun i => word_lt _ (Host.reduce_andi_all _ _ _ _ _ e1 i), fun i => word_lt _ (Host.reduce_andi_all _ _ _ _ _ e2 i)⟩

/-- The whole precondition: the targets in the vocabulary, and each offset compared with 0 and with 1. -/
theorem ranges (a0 : FVec F Cert.Pre_in_range.S4x512x32000 .f32) (a1 a2 : IVec Cert.Pre_in_range.S4x512 32)
    (a3 : FVec F Cert.Pre_in_range.S4x512 .f32) (h : Cert.Pre_in_range.fn a0 a1 a2 a3 = fun _ => 1#1) :
    ((∀ i, (a1 i).toNat < 32000) ∧ ∀ i, (a2 i).toNat < 32000)
      ∧ ∀ i, FloatOps.cmpf .oge (a3 i) (FloatOps.ofBits .f32 0x00000000#32) = 1#1 ∧ FloatOps.cmpf .ole (a3 i) (FloatOps.ofBits .f32 0x3F800000#32) = 1#1 := by
  have e := congrFun h (fun a => a.elim0)
  unfold Cert.Pre_in_range.fn Cert.Pre_in_range.fn_part1 at e
  obtain ⟨e0, e3⟩ := IntOp.andi_eq_one.1 e
  obtain ⟨e1, e2⟩ := IntOp.andi_eq_one.1 e0
  refine ⟨⟨fun i => word_lt _ (Host.reduce_andi_all _ _ _ _ _ e1 i), fun i => word_lt _ (Host.reduce_andi_all _ _ _ _ _ e2 i)⟩, fun i => ?_⟩
  exact IntOp.andi_eq_one.1 (Host.reduce_andi_all _ _ _ _ _ e3 i)

end Cert.Proof.Pre

end
-- ==== Proof.Frames.lean ====
/-
  The program runs to its end from the launch memory with the arguments unchanged and every semaphore at zero.
-/
module

public import proofs.«01_k».proof.Proof.Contents
public import proofs.«01_k».proof.Proof.Precondition

@[expose] public section

noncomputable section

namespace Cert.Proof.Run

open Cert.KernelIdeal Cert.KernelIdeal.Gen

open Idealize.ShloMosaic
open Idealize.ShloMosaic.TcCoe
open Idealize.SL.Sem

variable {F : FTy → Type} [FloatOps F] [Named F]

/-- The run, and what of it a frame says, when the targets lie in the vocabulary. -/
theorem frame [∀ e, Nonempty (Elt F e)] (m : (ℓ : Loc nD τ sig) → Buf (Elt F) ℓ) (ρ : Dev nD → PrngReg)
    (h : ∀ c : Dev nD, (∀ i, (m ((c.tc : Thread nD τ).loc main_arg1) i : BitVec 32).toNat < 32000)
      ∧ ∀ i, (m ((c.tc : Thread nD τ).loc main_arg2) i : BitVec 32).toNat < 32000) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r hr => ⟨fun c => end_args m c r hr, hr.2⟩) (run_main m ρ fun d => inVocab m d (h d).1 (h d).2)

end Cert.Proof.Run

end
-- ==== Proof.IdealFrames.lean ====
/-
  The frames of the idealized kernel, under each of the two preconditions.
-/
module

public import proofs.«01_k».proof.Proof.Frames

@[expose] public section

noncomputable section

namespace Cert.Proof

open Idealize.ShloMosaic Idealize.SL.Sem

theorem frame_ideal : Cert.quiescent_KernelIdeal := fun m g h =>
  Run.frame m g fun c => Pre.targets _ _ _ _ (h c)

theorem frame_ideal_in_range : Cert.quiescent_KernelIdeal_pre_in_range := fun m g h =>
  Run.frame m g fun c => (Pre.ranges _ _ _ _ (h c)).1

end Cert.Proof

end
-- ==== Proof.Printed.Frames.lean ====
/-
  The program runs to its end from the launch memory with the arguments unchanged and every semaphore at zero.
-/
module

public import proofs.«01_k».proof.Proof.Printed.Contents
public import proofs.«01_k».proof.Proof.Precondition

@[expose] public section

noncomputable section

namespace Cert.Proof.RunPrinted

open Cert.Kernel Cert.Kernel.Gen

open Idealize.ShloMosaic
open Idealize.ShloMosaic.TcCoe
open Idealize.SL.Sem

variable {F : FTy → Type} [FloatOps F]

/-- The run, and what of it a frame says, when the targets lie in the vocabulary. -/
theorem frame [∀ e, Nonempty (Elt F e)] (m : (ℓ : Loc nD τ sig) → Buf (Elt F) ℓ) (ρ : Dev nD → PrngReg)
    (h : ∀ c : Dev nD, (∀ i, (m ((c.tc : Thread nD τ).loc main_arg1) i : BitVec 32).toNat < 32000)
      ∧ ∀ i, (m ((c.tc : Thread nD τ).loc main_arg2) i : BitVec 32).toNat < 32000) :
    θ_run (Cert.Kernel.defs (F := F)) (Cert.Kernel.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r hr => ⟨fun c => end_args m c r hr, hr.2⟩) (run_main m ρ fun d => inVocab m d (h d).1 (h d).2)

end Cert.Proof.RunPrinted

end
-- ==== Proof.PrintedFrame.lean ====
/-
  The frame of the kernel as printed, its floats words.
-/
module

public import proofs.«01_k».proof.Proof.Printed.Frames
public import proofs.«01_k».proof.Proof.Precondition

@[expose] public section

noncomputable section

namespace Cert.Proof

open Idealize.ShloMosaic Idealize.SL.Sem

theorem frame_printed : Cert.quiescent_Kernel := fun m g h =>
  RunPrinted.frame m g fun c => Pre.targets _ _ _ _ (h c)

end Cert.Proof

end
-- ==== Proof.FixValue.lean ====
/-
  The first call's table at one row and column: three values of the distribution with their products with their own logarithm.
-/
module

public import proofs.«01_k».proof.Proof.Contents
public import Idealize.ShloMosaic.Lib.Pointwise

@[expose] public section

noncomputable section

namespace Cert.Proof.Run

open Cert.KernelIdeal Cert.KernelIdeal.Gen

open Idealize.ShloMosaic
open Idealize.ShloMosaic.TcCoe

variable {F : FTy → Type} [FloatOps F] [Named F]

/-- The distribution at the biased target, away from the target and from column 0. -/
def dB (t : BitVec 32) (o : F .f32) : F .f32 :=
  Scalar.select (IntOp.cmpi .ne t 0#32)
    (FloatOps.addf (FloatOps.ofBits .f32 0x3651BA72#32) (FloatOps.mulf o (FloatOps.ofBits .f32 0x3F666666#32))) (FloatOps.ofBits .f32 0x00000000#32)
/-- The distribution at the target. -/
def dT (t b : BitVec 32) (o : F .f32) : F .f32 :=
  Scalar.select (IntOp.cmpi .ne t 0#32)
    (FloatOps.addf (FloatOps.mulf (FloatOps.ofBits .f32 0x3F666666#32) (FloatOps.subf (FloatOps.ofBits .f32 0x3F800000#32) o))
      (Scalar.select (IntOp.cmpi .eq b t) (FloatOps.mulf o (FloatOps.ofBits .f32 0x3F666666#32)) (FloatOps.ofBits .f32 0x00000000#32)))
    (FloatOps.ofBits .f32 0x00000000#32)
/-- The distribution at column 0. -/
def dZ (t b : BitVec 32) (o : F .f32) : F .f32 :=
  Scalar.select (IntOp.andi (IntOp.cmpi .ne t 0#32) (IntOp.cmpi .eq b 0#32)) (FloatOps.mulf o (FloatOps.ofBits .f32 0x3F666666#32))
    (FloatOps.ofBits .f32 0x00000000#32)
/-- A value times its own logarithm, zero at zero. -/
def gOf (d : F .f32) : F .f32 :=
  FloatOps.mulf d (FloatOps.log (Scalar.select (FloatOps.cmpf .ogt d (FloatOps.ofBits .f32 0x00000000#32)) d (FloatOps.ofBits .f32 0x3F800000#32)))

/-- The distribution's value for the SparseCore call's row `a`. -/
def dOf (a : Fin 3) (t b : BitVec 32) (o : F .f32) : F .f32 := match a with
  | 0 => dB t o
  | 1 => dT t b o
  | 2 => dZ t b o

variable (x0 x1 : S1x2048.Idx → Elt F .i32) (x2 : S1x2048.Idx → Elt F .f32) (r : Fin 2048)

theorem fix_row0 : fixOut x0 x1 x2 (ix2 (0 : Fin 8) r) = dB (x0 (ix2 0 r)) (x2 (ix2 0 r)) := by
  pointwise [fixOut, k0_pay1, k0_pay7, k0_pay8, k0_pay9, k0_pay10, k0_pay11, k0_pay12, k0_pay13, k0_pay6, k0_pay5, k0_pay4, k0_pay3, k0_pay2, gOf, dB, dT, dZ]

theorem fix_row1 : fixOut x0 x1 x2 (ix2 (1 : Fin 8) r) = gOf (dB (x0 (ix2 0 r)) (x2 (ix2 0 r))) := by
  pointwise [fixOut, k0_pay1, k0_pay7, k0_pay8, k0_pay9, k0_pay10, k0_pay11, k0_pay12, k0_pay13, k0_pay6, k0_pay5, k0_pay4, k0_pay3, k0_pay2, gOf, dB, dT, dZ]

theorem fix_row2 : fixOut x0 x1 x2 (ix2 (2 : Fin 8) r) = dT (x0 (ix2 0 r)) (x1 (ix2 0 r)) (x2 (ix2 0 r)) := by
  pointwise [fixOut, k0_pay1, k0_pay7, k0_pay8, k0_pay9, k0_pay10, k0_pay11, k0_pay12, k0_pay13, k0_pay6, k0_pay5, k0_pay4, k0_pay3, k0_pay2, gOf, dB, dT, dZ]

theorem fix_row3 : fixOut x0 x1 x2 (ix2 (3 : Fin 8) r) = gOf (dT (x0 (ix2 0 r)) (x1 (ix2 0 r)) (x2 (ix2 0 r))) := by
  pointwise [fixOut, k0_pay1, k0_pay7, k0_pay8, k0_pay9, k0_pay10, k0_pay11, k0_pay12, k0_pay13, k0_pay6, k0_pay5, k0_pay4, k0_pay3, k0_pay2, gOf, dB, dT, dZ]

theorem fix_row4 : fixOut x0 x1 x2 (ix2 (4 : Fin 8) r) = dZ (x0 (ix2 0 r)) (x1 (ix2 0 r)) (x2 (ix2 0 r)) := by
  pointwise [fixOut, k0_pay1, k0_pay7, k0_pay8, k0_pay9, k0_pay10, k0_pay11, k0_pay12, k0_pay13, k0_pay6, k0_pay5, k0_pay4, k0_pay3, k0_pay2, gOf, dB, dT, dZ]

theorem fix_row5 : fixOut x0 x1 x2 (ix2 (5 : Fin 8) r) = gOf (dZ (x0 (ix2 0 r)) (x1 (ix2 0 r)) (x2 (ix2 0 r))) := by
  pointwise [fixOut, k0_pay1, k0_pay7, k0_pay8, k0_pay9, k0_pay10, k0_pay11, k0_pay12, k0_pay13, k0_pay6, k0_pay5, k0_pay4, k0_pay3, k0_pay2, gOf, dB, dT, dZ]

/-- An even row of the table is the distribution's value, the odd row after it that value's product with its logarithm. -/
theorem fix_even (a : Fin 3) (h : 2 * a.val < 8) :
    fixOut x0 x1 x2 (ix2 ⟨2 * a.val, h⟩ r) = dOf a (x0 (ix2 0 r)) (x1 (ix2 0 r)) (x2 (ix2 0 r)) := by
  match a with
  | 0 => exact fix_row0 x0 x1 x2 r
  | 1 => exact fix_row2 x0 x1 x2 r
  | 2 => exact fix_row4 x0 x1 x2 r

theorem fix_odd (a : Fin 3) (h : 2 * a.val + 1 < 8) :
    fixOut x0 x1 x2 (ix2 ⟨2 * a.val + 1, h⟩ r) = gOf (dOf a (x0 (ix2 0 r)) (x1 (ix2 0 r)) (x2 (ix2 0 r))) := by
  match a with
  | 0 => exact fix_row1 x0 x1 x2 r
  | 1 => exact fix_row3 x0 x1 x2 r
  | 2 => exact fix_row5 x0 x1 x2 r

/-! ## The table in the run -/

variable (m : (ℓ : Loc nD τ sig) → Buf (Elt F) ℓ) (d : Dev nD)

set_option maxRecDepth 16384 in
/-- The first call's one point writes the whole table. -/
theorem table_eq (W : Dev nD → Valuation τ sig (Elt F)) (O : CellTallies nD τ sig (SparseCore.Cfg.HIx 1)) (b : ℕ) :
    (dat0 W O b d).arrAt 3 cfg0.N
      = fixOut (W d (Proc.devRef .tc main_v1)) (W d (Proc.devRef .tc main_v2)) (W d (Proc.devRef .tc main_v3)) := by
  refine (dat0 W O b d).arrAt_eq_of_after_last 3 t0_0 (by decide +kernel) _ fun j => ?_
  blk_simp
  show fixOut (blk0 W d 0 t0_0) (blk0 W d 1 t0_0) (blk0 W d 2 t0_0) _ = _
  have i0 : win0_0.index t0_0 = ![0, 0] ∧ win0_1.index t0_0 = ![0, 0] ∧ win0_2.index t0_0 = ![0, 0] := by decide +kernel
  have e0 : blk0 W d 0 t0_0 = W d (Proc.devRef .tc main_v1) := by funext x; blk_simp [blk0]; blk_ext [i0]
  have e1 : blk0 W d 1 t0_0 = W d (Proc.devRef .tc main_v2) := by funext x; blk_simp [blk0]; blk_ext [i0]
  have e2 : blk0 W d 2 t0_0 = W d (Proc.devRef .tc main_v3) := by funext x; blk_simp [blk0]; blk_ext [i0]
  rw [e0, e1, e2]

end Cert.Proof.Run

end
-- ==== Proof.Operands.lean ====
/-
  What the last call's operands hold: the targets and the predictions as the arguments give them, and the three rows of the SparseCore call at the
  arguments of one row.
-/
module

public import proofs.«01_k».proof.Proof.FixValue

@[expose] public section

noncomputable section

namespace Cert.Proof.Run

open Cert.KernelIdeal Cert.KernelIdeal.Gen

open Idealize.ShloMosaic
open Idealize.ShloMosaic.TcCoe
open Idealize.ShloMosaic.Pipeline (Dat arrRef ucRefs afterRegion)

variable {F : FTy → Type} [FloatOps F] [Named F]

/-- Where row `r`'s target, biased target and offset stand in the arguments. -/
def cellAt (r : Fin 2048) : S4x512.Idx :=
  ix2 (⟨r.val / 512, by have := r.isLt; omega⟩ : Fin 4) (⟨r.val % 512, Nat.mod_lt _ (by decide)⟩ : Fin 512)
/-- Where the prediction at row `r` and column `c` stands in the first argument. -/
def cellAt3 (r : Fin 2048) (c : Fin 32000) : S4x512x32000.Idx :=
  ix3 (⟨r.val / 512, by have := r.isLt; omega⟩ : Fin 4) (⟨r.val % 512, Nat.mod_lt _ (by decide)⟩ : Fin 512) c

section
variable {α : Type}

theorem cast_1row (x : S4x512.Idx → α) (r : Fin 2048) : shapeCast S1x2048 x shapeCasts_S4x512_S1x2048 (ix2 (0 : Fin 1) r) = x (cellAt r) :=
  shapeCast_apply x _ _ _ (by
    rw [Shape.rowMajor_val_two, Shape.rowMajor_val_two]
    show r.val / 512 * 512 + r.val % 512 = 0 * 2048 + r.val
    omega)

theorem cast_flat (x : S4x512.Idx → α) (r : Fin 2048) : shapeCast S2048 x shapeCasts_S4x512_S2048 (at1 r) = x (cellAt r) :=
  shapeCast_apply x _ _ _ (by
    rw [Shape.rowMajor_val_two, Shape.rowMajor_val_one]
    show r.val / 512 * 512 + r.val % 512 = r.val
    omega)

theorem cast_1col (x : S4x512.Idx → α) (r : Fin 2048) : shapeCast S2048x1 x shapeCasts_S4x512_S2048x1 (ix2 r (0 : Fin 1)) = x (cellAt r) :=
  shapeCast_apply x _ _ _ (by
    rw [Shape.rowMajor_val_two, Shape.rowMajor_val_two]
    show r.val / 512 * 512 + r.val % 512 = r.val * 1 + 0
    omega)

theorem cast_rows (x : S4x512x32000.Idx → α) (r : Fin 2048) (c : Fin 32000) :
    shapeCast S2048x32000 x shapeCasts_S4x512x32000_S2048x32000 (ix2 r c) = x (cellAt3 r c) :=
  shapeCast_apply x _ _ _ (by
    rw [Shape.rowMajor_val_three, Shape.rowMajor_val_two]
    show (r.val / 512 * 512 + r.val % 512) * 32000 + c.val = r.val * 32000 + c.val
    omega)

theorem cast_long (x : S4x512x32000.Idx → α) (r : Fin 2048) (c : Fin 32000) (n : Fin 65536000) (h : n.val = r.val * 32000 + c.val) :
    shapeCast S65536000 x shapeCasts_S4x512x32000_S65536000 (at1 n) = x (cellAt3 r c) :=
  shapeCast_apply x _ _ _ (by
    rw [Shape.rowMajor_val_three, Shape.rowMajor_val_one]
    show (r.val / 512 * 512 + r.val % 512) * 32000 + c.val = n.val
    omega)

theorem cast_vec (x : S1x2048.Idx → α) (r : Fin 2048) :
    shapeCast S2048x1 (shapeCast S2048 x shapeCasts_S1x2048_S2048) shapeCasts_S2048_S2048x1 (ix2 r (0 : Fin 1)) = x (ix2 (0 : Fin 1) r) := by
  rw [shapeCast_apply _ _ (ix2 r (0 : Fin 1)) (at1 r : S2048.Idx) (by
      rw [Shape.rowMajor_val_one, Shape.rowMajor_val_two]
      show r.val = r.val * 1 + 0
      omega)]
  exact shapeCast_apply x _ _ _ (by
    rw [Shape.rowMajor_val_one, Shape.rowMajor_val_two]
    show 0 * 2048 + r.val = r.val
    omega)

end

variable (m : (ℓ : Loc nD τ sig) → Buf (Elt F) ℓ) (d : Dev nD)

/-- The arguments: predictions, targets, biased targets, biased offsets. -/
abbrev A0 : S4x512x32000.Idx → Elt F .f32 := m (d, Proc.devRef .tc main_arg0)
abbrev A1 : S4x512.Idx → Elt F .i32 := m (d, Proc.devRef .tc main_arg1)
abbrev A2 : S4x512.Idx → Elt F .i32 := m (d, Proc.devRef .tc main_arg2)
abbrev A3 : S4x512.Idx → Elt F .f32 := m (d, Proc.devRef .tc main_arg3)

theorem V1_v0 : V1 m d (Proc.devRef .tc main_v0) = shapeCast S2048x32000 (A0 m d) shapeCasts_S4x512x32000_S2048x32000 := by
  unfold V1 ops1
  simp only [StableHlo.after_cons, StableHlo.after_nil]
  rw [StableHlo.reshape_result_ne (h := by decide), StableHlo.reshape_result_ne (h := by decide), StableHlo.reshape_result_ne (h := by decide),
    StableHlo.reshape_result]
  rfl
theorem V1_v1 : V1 m d (Proc.devRef .tc main_v1) = shapeCast S1x2048 (A1 m d) shapeCasts_S4x512_S1x2048 := by
  unfold V1 ops1
  simp only [StableHlo.after_cons, StableHlo.after_nil]
  rw [StableHlo.reshape_result_ne (h := by decide), StableHlo.reshape_result_ne (h := by decide), StableHlo.reshape_result,
    StableHlo.reshape_result_ne (h := by decide)]
  rfl
theorem V1_v2 : V1 m d (Proc.devRef .tc main_v2) = shapeCast S1x2048 (A2 m d) shapeCasts_S4x512_S1x2048 := by
  unfold V1 ops1
  simp only [StableHlo.after_cons, StableHlo.after_nil]
  rw [StableHlo.reshape_result_ne (h := by decide), StableHlo.reshape_result, StableHlo.reshape_result_ne (h := by decide),
    StableHlo.reshape_result_ne (h := by decide)]
  rfl
theorem V1_v3 : V1 m d (Proc.devRef .tc main_v3) = shapeCast S1x2048 (A3 m d) shapeCasts_S4x512_S1x2048 := by
  unfold V1 ops1
  simp only [StableHlo.after_cons, StableHlo.after_nil]
  rw [StableHlo.reshape_result, StableHlo.reshape_result_ne (h := by decide), StableHlo.reshape_result_ne (h := by decide),
    StableHlo.reshape_result_ne (h := by decide)]
  rfl

theorem V2_table : V2 m d (Proc.devRef .tc main_v4)
    = fixOut (shapeCast S1x2048 (A1 m d) shapeCasts_S4x512_S1x2048) (shapeCast S1x2048 (A2 m d) shapeCasts_S4x512_S1x2048)
        (shapeCast S1x2048 (A3 m d) shapeCasts_S4x512_S1x2048) := by
  refine (Pipeline.afterRegion_arr (dat0 (V1 m) (owe (F := F) d 0) (lvl 0) d) (V1 m d) winFacts0.arr_inj 3).trans ?_
  rw [table_eq, V1_v1, V1_v2, V1_v3]

/-- The table in the SparseCore call, at one row. -/
theorem X_even (a : Fin 3) (r : Fin 2048) (h : 2 * a.val < 8) :
    (X m d).tab (at2 ⟨2 * a.val, h⟩ r) = dOf a (A1 m d (cellAt r)) (A2 m d (cellAt r)) (A3 m d (cellAt r)) := by
  rw [X_tab, V2_table]
  refine (congrArg _ (?_ : _ = ix2 (⟨2 * a.val, h⟩ : Fin 8) r)).trans ((fix_even _ _ _ r a h).trans ?_)
  · funext q
    match q with
    | 0 => rfl
    | 1 => rfl
  · rw [cast_1row, cast_1row, cast_1row]
theorem X_odd (a : Fin 3) (r : Fin 2048) (h : 2 * a.val + 1 < 8) :
    (X m d).tab (at2 ⟨2 * a.val + 1, h⟩ r) = gOf (dOf a (A1 m d (cellAt r)) (A2 m d (cellAt r)) (A3 m d (cellAt r))) := by
  rw [X_tab, V2_table]
  refine (congrArg _ (?_ : _ = ix2 (⟨2 * a.val + 1, h⟩ : Fin 8) r)).trans ((fix_odd _ _ _ r a h).trans ?_)
  · funext q
    match q with
    | 0 => rfl
    | 1 => rfl
  · rw [cast_1row, cast_1row, cast_1row]

/-- The column of the SparseCore call's row `a`. -/
def colOf (a : Fin 3) (t b : BitVec 32) : BitVec 32 := match a with
  | 0 => b
  | 1 => t
  | 2 => 0#32

theorem X_col (a : Fin 3) (r : Fin 2048) : col (X m d) a r = colOf a (A1 m d (cellAt r)) (A2 m d (cellAt r)) := by
  match a with
  | 0 => exact (congrFun (X_b m d) (at1 r)).trans (cast_flat _ r)
  | 1 => exact (congrFun (X_t m d) (at1 r)).trans (cast_flat _ r)
  | 2 => rfl

/-- The SparseCore call's row `a` at one row of the problem, the column read being `c`. -/
theorem gathered (a : Fin 3) (r : Fin 2048) (c : Fin 32000) (hc : (colOf a (A1 m d (cellAt r)) (A2 m d (cellAt r))).toNat = c.val) :
    scOut (X m d) (ix2 a r)
      = FloatOps.subf (gOf (dOf a (A1 m d (cellAt r)) (A2 m d (cellAt r)) (A3 m d (cellAt r))))
          (FloatOps.mulf (dOf a (A1 m d (cellAt r)) (A2 m d (cellAt r)) (A3 m d (cellAt r))) (A0 m d (cellAt3 r c))) := by
  have hp : (X m d).p (at1 (flat (X m d) a r)) = A0 m d (cellAt3 r c) := by
    rw [X_p]
    refine cast_long _ r c _ ?_
    show (r.val * 32000 + (col (X m d) a r).toNat) % 65536000 = _
    rw [X_col, hc]
    have := r.isLt
    have := c.isLt
    omega
  rw [← X_odd m d a r (by have := a.isLt; omega), ← X_even m d a r (by have := a.isLt; omega), ← hp]
  rfl

/-! ## The last call's operands -/

theorem V5_v11 : V5 m d (Proc.devRef .tc main_v11)
    = shapeCast S2048x1 (shapeCast S2048 (row0 (scOut (X m d))) shapeCasts_S1x2048_S2048) shapeCasts_S2048_S2048x1 := by
  unfold V5 ops3
  simp only [StableHlo.after_cons, StableHlo.after_nil]
  rw [StableHlo.reshape_result_ne (h := by decide), StableHlo.reshape_result_ne (h := by decide), StableHlo.reshape_result_ne (h := by decide), StableHlo.reshape_result_ne (h := by decide), StableHlo.unary_result_ne (h := by decide), StableHlo.reshape_result_ne (h := by decide), StableHlo.reshape_result_ne (h := by decide), StableHlo.unary_result_ne (h := by decide), StableHlo.reshape_result, StableHlo.reshape_result, StableHlo.unary_result, V4_out]
  rfl
theorem V5_v14 : V5 m d (Proc.devRef .tc main_v14)
    = shapeCast S2048x1 (shapeCast S2048 (row1 (scOut (X m d))) shapeCasts_S1x2048_S2048) shapeCasts_S2048_S2048x1 := by
  unfold V5 ops3
  simp only [StableHlo.after_cons, StableHlo.after_nil]
  rw [StableHlo.reshape_result_ne (h := by decide), StableHlo.reshape_result_ne (h := by decide), StableHlo.reshape_result_ne (h := by decide), StableHlo.reshape_result_ne (h := by decide), StableHlo.unary_result_ne (h := by decide), StableHlo.reshape_result, StableHlo.reshape_result, StableHlo.unary_result, StableHlo.reshape_result_ne (h := by decide), StableHlo.reshape_result_ne (h := by decide), StableHlo.unary_result_ne (h := by decide), V4_out]
  rfl
theorem V5_v17 : V5 m d (Proc.devRef .tc main_v17)
    = shapeCast S2048x1 (shapeCast S2048 (row2 (scOut (X m d))) shapeCasts_S1x2048_S2048) shapeCasts_S2048_S2048x1 := by
  unfold V5 ops3
  simp only [StableHlo.after_cons, StableHlo.after_nil]
  rw [StableHlo.reshape_result_ne (h := by decide), StableHlo.reshape_result_ne (h := by decide), StableHlo.reshape_result, StableHlo.reshape_result, StableHlo.unary_result, StableHlo.reshape_result_ne (h := by decide), StableHlo.reshape_result_ne (h := by decide), StableHlo.unary_result_ne (h := by decide), StableHlo.reshape_result_ne (h := by decide), StableHlo.reshape_result_ne (h := by decide), StableHlo.unary_result_ne (h := by decide), V4_out]
  rfl
theorem V5_v18 : V5 m d (Proc.devRef .tc main_v18) = shapeCast S2048x1 (A1 m d) shapeCasts_S4x512_S2048x1 := by
  unfold V5 ops3
  simp only [StableHlo.after_cons, StableHlo.after_nil]
  rw [StableHlo.reshape_result_ne (h := by decide), StableHlo.reshape_result, StableHlo.reshape_result_ne (h := by decide), StableHlo.reshape_result_ne (h := by decide), StableHlo.unary_result_ne (h := by decide), StableHlo.reshape_result_ne (h := by decide), StableHlo.reshape_result_ne (h := by decide), StableHlo.unary_result_ne (h := by decide), StableHlo.reshape_result_ne (h := by decide), StableHlo.reshape_result_ne (h := by decide), StableHlo.unary_result_ne (h := by decide), V4_apart apart1]
  rfl
theorem V5_v19 : V5 m d (Proc.devRef .tc main_v19) = shapeCast S2048x1 (A2 m d) shapeCasts_S4x512_S2048x1 := by
  unfold V5 ops3
  simp only [StableHlo.after_cons, StableHlo.after_nil]
  rw [StableHlo.reshape_result, StableHlo.reshape_result_ne (h := by decide), StableHlo.reshape_result_ne (h := by decide), StableHlo.reshape_result_ne (h := by decide), StableHlo.unary_result_ne (h := by decide), StableHlo.reshape_result_ne (h := by decide), StableHlo.reshape_result_ne (h := by decide), StableHlo.unary_result_ne (h := by decide), StableHlo.reshape_result_ne (h := by decide), StableHlo.reshape_result_ne (h := by decide), StableHlo.unary_result_ne (h := by decide), V4_apart apart2]
  rfl
theorem V5_v0 : V5 m d (Proc.devRef .tc main_v0) = shapeCast S2048x32000 (A0 m d) shapeCasts_S4x512x32000_S2048x32000 := by
  rw [V5_keep m d main_v0 (by decide), V4_ne m d main_v0 (StableHlo.devRef_ne_of_ne (by decide)), V3_keep m d main_v0 (by decide),
    V2_keep m d main_v0 (by decide), V1_v0]

/-- The three columns of special values at one row, and the other operands there. -/
theorem V5_vb (r : Fin 2048) : V5 m d (Proc.devRef .tc main_v11) (ix2 r (0 : Fin 1)) = scOut (X m d) (ix2 (0 : Fin 3) r) := by
  rw [V5_v11]
  refine (cast_vec _ r).trans ?_
  pointwise
theorem V5_vt (r : Fin 2048) : V5 m d (Proc.devRef .tc main_v14) (ix2 r (0 : Fin 1)) = scOut (X m d) (ix2 (1 : Fin 3) r) := by
  rw [V5_v14]
  refine (cast_vec _ r).trans ?_
  pointwise
theorem V5_vz (r : Fin 2048) : V5 m d (Proc.devRef .tc main_v17) (ix2 r (0 : Fin 1)) = scOut (X m d) (ix2 (2 : Fin 3) r) := by
  rw [V5_v17]
  refine (cast_vec _ r).trans ?_
  pointwise
theorem V5_t (r : Fin 2048) : V5 m d (Proc.devRef .tc main_v18) (ix2 r (0 : Fin 1)) = A1 m d (cellAt r) := by
  rw [V5_v18]
  exact cast_1col _ r
theorem V5_b (r : Fin 2048) : V5 m d (Proc.devRef .tc main_v19) (ix2 r (0 : Fin 1)) = A2 m d (cellAt r) := by
  rw [V5_v19]
  exact cast_1col _ r
theorem V5_p (r : Fin 2048) (c : Fin 32000) : V5 m d (Proc.devRef .tc main_v0) (ix2 r c) = A0 m d (cellAt3 r c) := by
  rw [V5_v0]
  exact cast_rows _ r c

end Cert.Proof.Run

end
-- ==== Proof.StreamValue.lean ====
/-
  The last call's result at one row and column: the dense value, replaced at the biased target, then at the target, then at column 0.
-/
module

public import proofs.«01_k».proof.Proof.Operands

@[expose] public section

noncomputable section

namespace Cert.Proof.Run

open Cert.KernelIdeal Cert.KernelIdeal.Gen

open Idealize.ShloMosaic
open Idealize.ShloMosaic.TcCoe
open Idealize.ShloMosaic.Pipeline (Dat arrRef ucRefs afterRegion)

variable {F : FTy → Type} [FloatOps F] [Named F]

/-- The last call's result at column `c` of a row with target `t`, biased target `b` and special values `vb`, `vt`, `vz`, the prediction being `p`. -/
def streamAt (c t b : BitVec 32) (vb vt vz p : F .f32) : F .f32 :=
  Scalar.select (IntOp.cmpi .eq c 0#32) vz
    (Scalar.select (IntOp.cmpi .eq c t) vt
      (Scalar.select (IntOp.cmpi .eq c b) vb
        (FloatOps.subf (Scalar.select (IntOp.cmpi .ne t 0#32) (Named.named κ "u_log_u" 0xB826284D#32) (FloatOps.ofBits .f32 0x00000000#32))
          (FloatOps.mulf (Scalar.select (IntOp.cmpi .ne t 0#32) (FloatOps.ofBits .f32 0x3651BA72#32) (FloatOps.ofBits .f32 0x00000000#32)) p))))

theorem stream_at (i : grid2.Coords) (t b : S256x1.Idx → Elt F .i32) (vb vt vz : S256x1.Idx → Elt F .f32) (p : S256x6400.Idx → Elt F .f32)
    (r : Fin 256) (c : Fin 6400) :
    streamOut i t b vb vt vz p (ix2 r c)
      = streamAt (IntOp.addi (BitVec.ofNat 32 c.val) (IntOp.muli (BitVec.ofNat 32 (i 1).val) 6400#32)) (t (ix2 r (0 : Fin 1))) (b (ix2 r (0 : Fin 1)))
          (vb (ix2 r (0 : Fin 1))) (vt (ix2 r (0 : Fin 1))) (vz (ix2 r (0 : Fin 1))) (p (ix2 r c)) := by
  pointwise [streamOut, k2_pay1, k2_pay2, k2_pay3, k2_pay4, k2_pay5, streamAt]
  rfl

/-- The column's word, counted from the block's first column. -/
theorem col_word (q c : ℕ) (hq : q < 5) (hc : c < 6400) :
    IntOp.addi (BitVec.ofNat 32 c) (IntOp.muli (BitVec.ofNat 32 q) 6400#32) = BitVec.ofNat 32 (q * 6400 + c) := by
  apply BitVec.eq_of_toNat_eq
  show (BitVec.ofNat 32 c + BitVec.ofNat 32 q * 6400#32).toNat = _
  simp only [BitVec.toNat_add, BitVec.toNat_mul, BitVec.toNat_ofNat]
  omega

variable (m : (ℓ : Loc nD τ sig) → Buf (Elt F) ℓ) (d : Dev nD)

theorem maps : ∀ t : Fin cfg2.N, win2_0.index t = ![t.val / 5, 0] ∧ win2_1.index t = ![t.val / 5, 0] ∧ win2_2.index t = ![t.val / 5, 0]
    ∧ win2_3.index t = ![t.val / 5, 0] ∧ win2_4.index t = ![t.val / 5, 0] ∧ win2_5.index t = ![t.val / 5, t.val % 5]
    ∧ win2_6.index t = ![t.val / 5, t.val % 5] ∧ (grid2.coords t 1).val = t.val % 5 :=
  (by decide +kernel : ∀ t : Fin grid2.N, _)

set_option maxRecDepth 16384 in
theorem stream_eq (W : Dev nD → Valuation τ sig (Elt F)) (O : CellTallies nD τ sig (SparseCore.Cfg.HIx 1)) (b : ℕ) :
    (dat2 W O b d).arrAt 6 cfg2.N = fun j : S2048x32000.Idx =>
      streamAt (BitVec.ofNat 32 (j 1).val) (W d (Proc.devRef .tc main_v18) (ix2 (j 0) (0 : Fin 1))) (W d (Proc.devRef .tc main_v19) (ix2 (j 0) (0 : Fin 1)))
        (W d (Proc.devRef .tc main_v11) (ix2 (j 0) (0 : Fin 1))) (W d (Proc.devRef .tc main_v14) (ix2 (j 0) (0 : Fin 1)))
        (W d (Proc.devRef .tc main_v17) (ix2 (j 0) (0 : Fin 1))) (W d (Proc.devRef .tc main_v0) (ix2 (j 0) (j 1))) := by
  refine (dat2 W O b d).arrAt_eq_of_covers 6 _ (by decide +kernel) fun t hf y => ?_
  blk_simp
  obtain ⟨r, c, rfl⟩ : ∃ (r : Fin 256) (c : Fin 6400), y = ix2 r c := ⟨y 0, y 1, eq_ix2 y⟩
  refine (stream_at (grid2.coords t) (blk2 W d 0 t) (blk2 W d 1 t) (blk2 W d 2 t) (blk2 W d 3 t) (blk2 W d 4 t) (blk2 W d 5 t) r c).trans ?_
  have hm := maps t
  have ht : t.val % 5 < 5 := Nat.mod_lt _ (by decide)
  rw [hm.2.2.2.2.2.2.2, col_word _ _ ht c.isLt]
  have ec : win2_6.index t 1 * 6400 + (ix2 r c (1 : Fin 2)).val = t.val % 5 * 6400 + c.val := by
    rw [hm.2.2.2.2.2.2.1]
    rfl
  have e0 : blk2 W d 0 t (ix2 r (0 : Fin 1)) = W d (Proc.devRef .tc main_v18) (ix2 ((win2_6.blk t).view.emb (ix2 r c) 0) (0 : Fin 1)) := by
    blk_simp [blk2]
    blk_ext [hm]
  have e1 : blk2 W d 1 t (ix2 r (0 : Fin 1)) = W d (Proc.devRef .tc main_v19) (ix2 ((win2_6.blk t).view.emb (ix2 r c) 0) (0 : Fin 1)) := by
    blk_simp [blk2]
    blk_ext [hm]
  have e2 : blk2 W d 2 t (ix2 r (0 : Fin 1)) = W d (Proc.devRef .tc main_v11) (ix2 ((win2_6.blk t).view.emb (ix2 r c) 0) (0 : Fin 1)) := by
    blk_simp [blk2]
    blk_ext [hm]
  have e3 : blk2 W d 3 t (ix2 r (0 : Fin 1)) = W d (Proc.devRef .tc main_v14) (ix2 ((win2_6.blk t).view.emb (ix2 r c) 0) (0 : Fin 1)) := by
    blk_simp [blk2]
    blk_ext [hm]
  have e4 : blk2 W d 4 t (ix2 r (0 : Fin 1)) = W d (Proc.devRef .tc main_v17) (ix2 ((win2_6.blk t).view.emb (ix2 r c) 0) (0 : Fin 1)) := by
    blk_simp [blk2]
    blk_ext [hm]
  have e5 : blk2 W d 5 t (ix2 r c)
      = W d (Proc.devRef .tc main_v0) (ix2 ((win2_6.blk t).view.emb (ix2 r c) 0) ((win2_6.blk t).view.emb (ix2 r c) 1)) := by
    blk_simp [blk2]
    blk_ext [hm]
  rw [e0, e1, e2, e3, e4, e5]
  exact congrArg (fun w => streamAt (BitVec.ofNat 32 w) _ _ _ _ _ _) ec.symm

/-- The program's result at row `r` and column `c`, from the rows of the SparseCore call. -/
theorem result_at (r : Fin 2048) (c : Fin 32000) :
    V6 m d (Proc.devRef .tc main_v20) (ix2 r c)
      = streamAt (BitVec.ofNat 32 c.val) (A1 m d (cellAt r)) (A2 m d (cellAt r)) (scOut (X m d) (ix2 (0 : Fin 3) r)) (scOut (X m d) (ix2 (1 : Fin 3) r))
          (scOut (X m d) (ix2 (2 : Fin 3) r)) (A0 m d (cellAt3 r c)) := by
  refine (congrFun ((Pipeline.afterRegion_arr (dat2 (V5 m) (owe (F := F) d 1) (lvl 1) d) (V5 m d) winFacts2.arr_inj 6).trans (stream_eq d _ _ _)) (ix2 r c)).trans ?_
  rw [← V5_t m d r, ← V5_b m d r, ← V5_vb m d r, ← V5_vt m d r, ← V5_vz m d r, ← V5_p m d r c]
  rfl

end Cert.Proof.Run

end
-- ==== Proof.Scatter.lean ====
/-
  The reference's two kinds of scatter, each read at one element of its result: one update a row at a column of that row's own, and a whole column written.
-/
module

public import proofs.«01_k».proof.Defs
public import proofs.«01_k».proof.Proof.Gen.ReferenceIdeal
public import Idealize.ShloMosaic.Lib.Routing.OpsPair
public import Idealize.ShloMosaic.Lib.Routing.OpsOne
public import Idealize.ShloMosaic.Lib.Routing.OpsSet

@[expose] public section

noncomputable section

namespace Cert.Proof.Ref

open Cert.ReferenceIdeal Cert.ReferenceIdeal.Gen Idealize.ShloMosaic Idealize.ShloMosaic.Routing Idealize.ShloMosaic.ValueIdx

/-- The dimension numbers of the scatter of one update a row. -/
abbrev rowDims : ScatterDims S2048x32000 S2048x2 S2048 := scatter_S2048x32000_S2048x2_S2048_n_01_01_1
/-- The dimension numbers of the scatter of one column. -/
abbrev colDims0 : ScatterDims S2048x32000 S1 S2048 := scatter_S2048x32000_S1_S2048_0_1_1_0

/-- Component `q` of the place that update `a` goes to is word `(a, q)` of the index table. -/
theorem place (a : Fin 2048) (q : Fin 2) (h : rowDims.scatterDimsToOperandDims.idxOf q < rowDims.scatterDimsToOperandDims.length) :
    rowDims.siIdx (ix1 a) ⟨rowDims.scatterDimsToOperandDims.idxOf q, h⟩ = ix2 a q := by
  funext b
  apply Fin.ext
  match q, b with
  | ⟨0, _⟩, ⟨0, _⟩ => rfl
  | ⟨0, _⟩, ⟨1, _⟩ => rfl
  | ⟨1, _⟩, ⟨0, _⟩ => rfl
  | ⟨1, _⟩, ⟨1, _⟩ => rfl

/-- Update `a` lands at the row and the column that its two index words name. -/
theorem lands_row (idx : IVec S2048x2 32) (a r : Fin 2048) (c : Fin 32000) :
    rowDims.resultIdx? (ix1 a) idx = some (ix2 r c) ↔ (idx (ix2 a (0 : Fin 2))).toInt = r.val ∧ (idx (ix2 a (1 : Fin 2))).toInt = c.val := by
  have hw : ∀ q : Fin 2, rowDims.window (ix1 a) q = 0 := fun q => by
    match q with
    | ⟨0, _⟩ => rfl
    | ⟨1, _⟩ => rfl
  have hs : ∀ q : Fin 2, rowDims.start (ix1 a) idx q = (idx (ix2 a q)).toInt := fun q => by
    have hm : q ∈ rowDims.scatterDimsToOperandDims := by
      match q with
      | ⟨0, _⟩ => exact List.mem_cons_self
      | ⟨1, _⟩ => exact List.mem_cons_of_mem _ List.mem_cons_self
    unfold ScatterDims.start
    rw [dif_pos hm, place]
  rw [resultIdx?_ix2, hs, hs, hw, hw]
  omega

/-- A scatter of one update a row, where row `a`'s index words are `a` and the column `k a`: row `r`'s update at that row's column, the old value elsewhere. -/
theorem scatter_rows {α : Type} (x0 : S2048x32000.Idx → α) (idx : IVec S2048x2 32) (upd : S2048.Idx → α) (k : Fin 2048 → Fin 32000)
    (hr : ∀ a : Fin 2048, (idx (ix2 a (0 : Fin 2))).toInt = a.val) (hc : ∀ a : Fin 2048, (idx (ix2 a (1 : Fin 2))).toInt = (k a).val)
    (r : Fin 2048) (c : Fin 32000) :
    Host.scatter rowDims (fun _ b => b) x0 idx upd (ix2 r c) = if c = k r then upd (ix1 r) else x0 (ix2 r c) := by
  have at_row : ∀ j : S2048.Idx, rowDims.resultIdx? j idx = some (ix2 r c) → j = ix1 r ∧ c = k r := fun j hj => by
    obtain ⟨a, rfl⟩ : ∃ a : Fin 2048, j = ix1 a := ⟨j 0, eq_ix1 j⟩
    obtain ⟨h0, h1⟩ := (lands_row idx a r c).1 hj
    rw [hr] at h0
    rw [hc] at h1
    obtain rfl : a = r := Fin.ext (by omega)
    exact ⟨rfl, Fin.ext (by omega)⟩
  by_cases h : c = k r
  · rw [if_pos h]
    exact scatter_set_hit rowDims x0 idx upd _ _ (fun j hj => congrArg upd (at_row j hj).1) (ix1 r)
      ((lands_row idx r r c).2 ⟨hr r, by rw [hc, h]⟩)
  · rw [if_neg h]
    exact scatter_set_miss rowDims x0 idx upd _ fun j hj => h (at_row j hj).2

/-- A scatter of column 0: the update's row in column 0, the old value elsewhere. -/
theorem scatter_first {α : Type} (x0 : S2048x32000.Idx → α) (idx : IVec S1 32) (upd : S2048.Idx → α)
    (h0 : idx (ix1 (0 : Fin 1)) = 0#32) (r : Fin 2048) (c : Fin 32000) :
    Host.scatter colDims0 (fun _ b => b) x0 idx upd (ix2 r c) = if c.val = 0 then upd (ix1 r) else x0 (ix2 r c) := by
  have hk : (idx (ix1 (0 : Fin 1))).toInt = ((⟨0, by decide⟩ : Fin 32000).val : Int) := by rw [h0]; rfl
  have at_row : ∀ j : S2048.Idx, colDims0.resultIdx? j idx = some (ix2 r c) → j = ix1 r ∧ c.val = 0 := fun j hj => by
    obtain ⟨a, rfl⟩ : ∃ a : Fin 2048, j = ix1 a := ⟨j 0, eq_ix1 j⟩
    obtain ⟨h1, h2⟩ := (lands_col colDims0 rfl rfl idx _ hk a r c).1 hj
    exact ⟨by rw [h1], by rw [h2]⟩
  by_cases h : c.val = 0
  · rw [if_pos h]
    exact scatter_set_hit colDims0 x0 idx upd _ _ (fun j hj => congrArg upd (at_row j hj).1) (ix1 r)
      ((lands_col colDims0 rfl rfl idx _ hk r r c).2 ⟨rfl, Fin.ext h⟩)
  · rw [if_neg h]
    exact scatter_set_miss colDims0 x0 idx upd _ fun j hj => h (at_row j hj).2

end Cert.Proof.Ref
-- ==== Proof.RefValue.lean ====
/-
  The reference's result at one row and column, as a plain expression in that row's target, biased target, offset and prediction.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Scatter

@[expose] public section

noncomputable section

namespace Cert.Proof.Ref

open Cert.ReferenceIdeal Cert.ReferenceIdeal.Gen Cert.ReferenceIdeal.Read Idealize.ShloMosaic Idealize.ShloMosaic.Routing Idealize.ShloMosaic.ValueIdx

variable {F : FTy → Type} [FloatOps F]

/-- Where row `r`'s target, biased target and offset stand in the arguments. -/
abbrev cell (r : Fin 2048) : S4x512.Idx := idx_main_v26 (ix1 r)
/-- Where the prediction at row `r` and column `c` stands in the first argument. -/
abbrev cell3 (r : Fin 2048) (c : Fin 32000) : S4x512x32000.Idx := idx_main_v25 (ix2 r c)

/-- The reference's distribution at one column `c` of a row with target `t`, biased target `b` and offset `o`. -/
def dist (t b : BitVec 32) (o : F .f32) (c : Fin 32000) : F .f32 :=
  Scalar.select (IntOp.cmpi .eq t 0#32) (FloatOps.ofBits .f32 0x00000000#32)
    (FloatOps.addf
      (if c.val = 0 then FloatOps.ofBits .f32 0x00000000#32
        else if c.val = t.toNat then FloatOps.mulf (FloatOps.ofBits .f32 0x3F666666#32) (FloatOps.subf (FloatOps.ofBits .f32 0x3F800000#32) o)
        else FloatOps.mulf (FloatOps.ofBits .f32 0x3651BA72#32) (FloatOps.ofBits .f32 0x3F800000#32))
      (if c.val = b.toNat then FloatOps.mulf o (FloatOps.ofBits .f32 0x3F666666#32) else FloatOps.ofBits .f32 0x00000000#32))

/-- The reference's result from the distribution's value `d` and the prediction `p`. -/
def result (d p : F .f32) : F .f32 :=
  FloatOps.subf
    (Scalar.select (IntOp.ori (FloatOps.cmpf .une d (FloatOps.ofBits .f32 0x00000000#32)) (FloatOps.cmpf .une d d))
      (FloatOps.mulf d (FloatOps.hostUnary .log d)) (FloatOps.ofBits .f32 0x00000000#32))
    (FloatOps.mulf d p)

/-- The first word of an index table of two joined columns. -/
theorem joined_left (x y : S2048x1.Idx → BitVec 32) (h : Shape.Concatenates [S2048x1, S2048x1] S2048x2 1) (a : Fin 2048) :
    concatenate S2048x2 1 [⟨S2048x1, x⟩, ⟨S2048x1, y⟩] h (ix2 a (0 : Fin 2)) = x (ix2 a (0 : Fin 1)) :=
  concatenate_pair_apply_left 1 x y h _ rfl _ fun b => by
    match b with
    | ⟨0, _⟩ => rfl
    | ⟨1, _⟩ => rfl

/-- The second word of an index table of two joined columns. -/
theorem joined_right (x y : S2048x1.Idx → BitVec 32) (h : Shape.Concatenates [S2048x1, S2048x1] S2048x2 1) (a : Fin 2048) :
    concatenate S2048x2 1 [⟨S2048x1, x⟩, ⟨S2048x1, y⟩] h (ix2 a (1 : Fin 2)) = y (ix2 a (0 : Fin 1)) :=
  concatenate_pair_apply_right 1 x y h _ rfl rfl _
    (fun b hb => by
      match b with
      | ⟨0, _⟩ => rfl
      | ⟨1, _⟩ => exact absurd rfl hb)
    rfl

/-- A row number, after the wrap of a negative index, is itself. -/
theorem row_word (a : Fin 2048) : (Scalar.select (IntOp.cmpi .slt (BitVec.ofNat 32 a.val) 0#32) (IntOp.addi (BitVec.ofNat 32 a.val) 2048#32) (BitVec.ofNat 32 a.val)).toInt = a.val := by
  have ha := a.isLt
  rw [wrap_of_lt _ _ (by rw [BitVec.toNat_ofNat]; omega), StableHlo.Predicate.toInt_ofNat_small _ (by omega)]

/-- A target in the vocabulary, after the wrap of a negative index, is itself. -/
theorem target_word (x : BitVec 32) (hx : x.toNat < 32000) : (Scalar.select (IntOp.cmpi .slt x 0#32) (IntOp.addi x 32000#32) x).toInt = x.toNat := by
  rw [wrap_of_lt _ _ (by omega), BitVec.toInt_eq_toNat_of_lt (by omega)]

theorem v24_at (x2 : IVec S4x512 32) (x3 : FVec F S4x512 .f32) (h : ∀ i, (x2 i).toNat < 32000) (r : Fin 2048) (c : Fin 32000) :
    val_main_v24 (F := F) x2 x3 (ix2 r c)
      = if c.val = (x2 (cell r)).toNat then FloatOps.mulf (x3 (cell r)) (FloatOps.ofBits .f32 0x3F666666#32) else FloatOps.ofBits .f32 0x00000000#32 := by
  unfold val_main_v24
  rw [scatter_rows _ _ _ (fun a => ⟨(x2 (cell a)).toNat, h _⟩) (fun a => ?_) (fun a => ?_)]
  · rw [val_main_v7_apply, val_main_v6_apply, val_main_v5_apply, val_main_cst_1_apply, val_main_v9_apply, val_main_cst_2_apply]
    exact if_congr Fin.ext_iff rfl rfl
  · unfold val_main_v23
    rw [joined_left, val_main_v21_apply, val_main_v15_apply, val_main_v12_apply, val_main_v14_apply, val_main_v11_apply, val_main_v13_apply, val_main_c_apply,
      val_main_c_3_apply, val_main_v8_apply]
    exact row_word a
  · unfold val_main_v23
    rw [joined_right, val_main_v22_apply, val_main_v20_apply, val_main_v17_apply, val_main_v19_apply, val_main_v16_apply, val_main_v18_apply, val_main_c_4_apply,
      val_main_c_5_apply, val_main_v10_apply]
    exact target_word _ (h _)

theorem v43_at (x1 : IVec S4x512 32) (x3 : FVec F S4x512 .f32) (h : ∀ i, (x1 i).toNat < 32000) (r : Fin 2048) (c : Fin 32000) :
    val_main_v43 (F := F) x1 x3 (ix2 r c)
      = if c.val = (x1 (cell r)).toNat
          then FloatOps.mulf (FloatOps.ofBits .f32 0x3F666666#32) (FloatOps.subf (FloatOps.ofBits .f32 0x3F800000#32) (x3 (cell r)))
          else FloatOps.mulf (FloatOps.ofBits .f32 0x3651BA72#32) (FloatOps.ofBits .f32 0x3F800000#32) := by
  unfold val_main_v43
  rw [scatter_rows _ _ _ (fun a => ⟨(x1 (cell a)).toNat, h _⟩) (fun a => ?_) (fun a => ?_)]
  · rw [val_main_v4_apply, val_main_v3_apply, val_main_v2_apply, val_main_cst_0_apply, val_main_v1_apply, val_main_v0_apply, val_main_cst_apply,
      val_main_v29_apply, val_main_v28_apply, val_main_v27_apply, val_main_cst_7_apply, val_main_cst_6_apply]
    exact if_congr Fin.ext_iff rfl rfl
  · unfold val_main_v42
    rw [joined_left, val_main_v40_apply, val_main_v34_apply, val_main_v31_apply, val_main_v33_apply, val_main_v30_apply, val_main_v32_apply, val_main_c_8_apply,
      val_main_c_9_apply, val_main_v8_apply]
    exact row_word a
  · unfold val_main_v42
    rw [joined_right, val_main_v41_apply, val_main_v39_apply, val_main_v36_apply, val_main_v38_apply, val_main_v35_apply, val_main_v37_apply, val_main_c_10_apply,
      val_main_c_11_apply, val_main_v26_apply]
    exact target_word _ (h _)

theorem v51_at (x1 x2 : IVec S4x512 32) (x3 : FVec F S4x512 .f32) (h1 : ∀ i, (x1 i).toNat < 32000) (h2 : ∀ i, (x2 i).toNat < 32000)
    (r : Fin 2048) (c : Fin 32000) :
    val_main_v51 (F := F) x1 x2 x3 (ix2 r c) = dist (x1 (cell r)) (x2 (cell r)) (x3 (cell r)) c := by
  rw [val_main_v51_apply, val_main_call0_v1_apply, val_main_v50_apply, val_main_v49_apply, val_main_v48_apply, val_main_c_14_apply, val_main_v26_apply,
    val_main_call0_v2_apply, val_main_call0_v0_apply, val_main_cst_15_apply, val_main_v47_apply, v24_at x2 x3 h2]
  unfold val_main_v46
  rw [scatter_first _ _ _ (by rw [val_main_v44_apply, val_main_c_12_apply]), v43_at x1 x3 h1, val_main_v45_apply, val_main_cst_13_apply]
  rfl

/-- The reference's result at row `r` and column `c`. -/
theorem v61_at (x0 : FVec F S4x512x32000 .f32) (x1 x2 : IVec S4x512 32) (x3 : FVec F S4x512 .f32) (h1 : ∀ i, (x1 i).toNat < 32000)
    (h2 : ∀ i, (x2 i).toNat < 32000) (r : Fin 2048) (c : Fin 32000) :
    val_main_v61 (F := F) x0 x1 x2 x3 (ix2 r c) = result (dist (x1 (cell r)) (x2 (cell r)) (x3 (cell r)) c) (x0 (cell3 r c)) := by
  rw [val_main_v61_apply, val_main_v60_apply, val_main_v59_apply, val_main_v57_apply, val_main_v56_apply, val_main_v55_apply, val_main_v54_apply,
    val_main_v53_apply, val_main_v52_apply, val_main_v58_apply, val_main_cst_16_apply, val_main_cst_17_apply, val_main_v25_apply, v51_at x1 x2 x3 h1 h2]
  rfl

end Cert.Proof.Ref
-- ==== Proof.Equation.lean ====
/-
  Over the extended reals the last call's result at one row and column is the reference's, whenever the offset lies between 0 and 1.
-/
module

public import proofs.«01_k».proof.Proof.StreamValue
public import proofs.«01_k».proof.Proof.RefValue
public import Idealize.ShloMosaic.PureOps.Ideal.Laws
public import Idealize.ShloMosaic.Lib.IdealHost

@[expose] public section

noncomputable section

namespace Cert.Proof.Equation

open Idealize.ShloMosaic
open Cert.Proof.Run (dB dT dZ gOf dOf streamAt colOf)
open Cert.Proof.Ref (result)

/-! ### The constants -/

theorem nine_tenths : Ideal.ofBits .f32 0x3F666666#32 = ((15099494 / 16777216 : ℝ) : EReal) := by
  simp [Ideal.ofBits, Ideal.ieee, -EReal.coe_mul]; norm_num

theorem smoothing : Ideal.ofBits .f32 0x3651BA72#32 = ((6872377 / 2199023255552 : ℝ) : EReal) := by
  simp [Ideal.ofBits, Ideal.ieee, -EReal.coe_mul]; norm_num

theorem smoothing_log : Named.named (F := Ideal) Cert.KernelIdeal.κ "u_log_u" (φ := .f32) 0xB826284D#32
    = (((6872377 / 2199023255552) * (Real.log (6872377 / 2199023255552)) : ℝ) : EReal) :=
  (IdealRules.named_const.statement _ _ .f32 0xB826284D#32 _ rfl).2.2

/-! ### A value's product with its own logarithm -/

theorem result_zero (p : Ideal .f32) : result (F := Ideal) (0 : EReal) p = (0 : EReal) - 0 * p := by
  simp [result, Scalar.select, IntOp.ori, Ideal.cmpf_def, Ideal.cmp]

theorem result_pos (x : ℝ) (hx : 0 < x) (p : Ideal .f32) :
    result (F := Ideal) (x : EReal) p = (x : EReal) * ((Real.log x : ℝ) : EReal) - (x : EReal) * p := by
  have h0 : ¬ x ≤ 0 := not_le.mpr hx
  have hn : (x : EReal) ≠ 0 := by simpa using hx.ne'
  have hl : FloatOps.hostUnary (F := Ideal) (φ := .f32) .log (x : EReal) = ((Real.log x : ℝ) : EReal) := by
    show Ideal.log (x : EReal) = _
    rw [Ideal.log_coe, if_neg h0]
  simp [result, Scalar.select, IntOp.ori, Ideal.cmpf_def, Ideal.cmp, hn, hl]

theorem own_log (x : ℝ) (hx : 0 ≤ x) (p : Ideal .f32) :
    FloatOps.subf (gOf (F := Ideal) (x : EReal)) (FloatOps.mulf (x : EReal) p) = result (F := Ideal) (x : EReal) p := by
  rcases hx.eq_or_lt with rfl | h
  · rw [EReal.coe_zero, result_zero]
    simp [gOf]
  · rw [result_pos x h]
    have h0 : ¬ x ≤ 0 := not_le.mpr h
    have hg : FloatOps.log (F := Ideal) (φ := .f32) (x : EReal) = ((Real.log x : ℝ) : EReal) := by
      show Ideal.log (x : EReal) = _
      rw [Ideal.log_coe, if_neg h0]
    have hp : (0 : EReal) < (x : EReal) := by exact_mod_cast h
    simp [gOf, Scalar.select, Ideal.cmpf_def, Ideal.cmp, h, h0]

/-! ### The distribution's three values are nonnegative reals -/

theorem zero_word : FloatOps.ofBits (F := Ideal) .f32 0x00000000#32 = ((0 : ℝ) : EReal) := by simp
theorem one_word : FloatOps.ofBits (F := Ideal) .f32 0x3F800000#32 = ((1 : ℝ) : EReal) := by simp

/-- A nonnegative real. -/
def Good (d : Ideal .f32) : Prop := ∃ x : ℝ, 0 ≤ x ∧ d = (x : EReal)

theorem good_zero : Good (FloatOps.ofBits (F := Ideal) .f32 0x00000000#32) := ⟨0, le_refl _, zero_word⟩
theorem good_nine : Good (FloatOps.ofBits (F := Ideal) .f32 0x3F666666#32) := ⟨_, by norm_num, nine_tenths⟩
theorem good_smoothing : Good (FloatOps.ofBits (F := Ideal) .f32 0x3651BA72#32) := ⟨_, by norm_num, smoothing⟩

theorem good_add {a b : Ideal .f32} (ha : Good a) (hb : Good b) : Good (FloatOps.addf a b) := by
  obtain ⟨x, hx, rfl⟩ := ha; obtain ⟨y, hy, rfl⟩ := hb
  exact ⟨x + y, add_nonneg hx hy, (EReal.coe_add x y).symm⟩

theorem good_mul {a b : Ideal .f32} (ha : Good a) (hb : Good b) : Good (FloatOps.mulf a b) := by
  obtain ⟨x, hx, rfl⟩ := ha; obtain ⟨y, hy, rfl⟩ := hb
  exact ⟨x * y, mul_nonneg hx hy, (EReal.coe_mul x y).symm⟩

theorem good_select {c : BitVec 1} {a b : Ideal .f32} (ha : Good a) (hb : Good b) : Good (Scalar.select c a b) := by
  unfold Scalar.select; split <;> assumption

theorem cmp_holds {q : Prop} [Decidable q] (h : BitVec.ofBool (decide q) = 1#1) : q := by
  by_contra hq
  rw [decide_eq_false hq] at h
  exact absurd h (by decide)

/-- An offset between 0 and 1 as the two comparisons say it. -/
theorem offset_real {o : Ideal .f32} (h0 : FloatOps.cmpf .oge o (FloatOps.ofBits .f32 0x00000000#32) = 1#1)
    (h1 : FloatOps.cmpf .ole o (FloatOps.ofBits .f32 0x3F800000#32) = 1#1) : ∃ x : ℝ, 0 ≤ x ∧ x ≤ 1 ∧ o = (x : EReal) := by
  rw [zero_word, Ideal.cmpf_def] at h0
  rw [one_word, Ideal.cmpf_def] at h1
  have h0' : ((0 : ℝ) : EReal) ≤ o := cmp_holds h0
  have h1' : o ≤ ((1 : ℝ) : EReal) := cmp_holds h1
  induction o using EReal.rec with
  | bot => exact absurd h0' (not_le.mpr (EReal.bot_lt_coe 0))
  | top => exact absurd h1' (not_le.mpr (EReal.coe_lt_top 1))
  | coe x => exact ⟨x, by exact_mod_cast h0', by exact_mod_cast h1', rfl⟩

theorem good_offset {o : Ideal .f32} (h : ∃ x : ℝ, 0 ≤ x ∧ x ≤ 1 ∧ o = (x : EReal)) : Good o := by
  obtain ⟨x, hx, -, rfl⟩ := h; exact ⟨x, hx, rfl⟩

theorem good_rest {o : Ideal .f32} (h : ∃ x : ℝ, 0 ≤ x ∧ x ≤ 1 ∧ o = (x : EReal)) :
    Good (FloatOps.subf (FloatOps.ofBits .f32 0x3F800000#32) o) := by
  obtain ⟨x, -, hx, rfl⟩ := h
  exact ⟨1 - x, sub_nonneg.mpr hx, by rw [one_word]; exact (EReal.coe_sub 1 x).symm⟩

theorem good_dOf (a : Fin 3) (t b : BitVec 32) {o : Ideal .f32} (h : ∃ x : ℝ, 0 ≤ x ∧ x ≤ 1 ∧ o = (x : EReal)) : Good (dOf a t b o) := by
  have ho := good_mul (good_offset h) good_nine
  match a with
  | 0 => exact good_select (good_add good_smoothing ho) good_zero
  | 1 => exact good_select (good_add (good_mul good_nine (good_rest h)) (good_select ho good_zero)) good_zero
  | 2 => exact good_select ho good_zero

theorem special (a : Fin 3) (t b : BitVec 32) {o : Ideal .f32} (h : ∃ x : ℝ, 0 ≤ x ∧ x ≤ 1 ∧ o = (x : EReal)) (p : Ideal .f32) :
    FloatOps.subf (gOf (dOf a t b o)) (FloatOps.mulf (dOf a t b o) p) = result (dOf a t b o) p := by
  obtain ⟨x, hx, e⟩ := good_dOf a t b h
  rw [e]; exact own_log x hx p

/-! ### The distribution's value in each class of columns -/

section Classes
variable (t b : BitVec 32) (o : Ideal .f32) (c : Fin 32000)

theorem word_iff (w : BitVec 32) : BitVec.ofNat 32 c.val = w ↔ c.val = w.toNat := by
  have hc := c.isLt
  constructor
  · rintro rfl; simp only [BitVec.toNat_ofNat]; omega
  · intro h; apply BitVec.eq_of_toNat_eq; simp only [BitVec.toNat_ofNat]; omega

theorem select_eq_word {α : Type} (v w : BitVec 32) (x y : α) : Scalar.select (IntOp.cmpi .eq v w) x y = if v = w then x else y := by
  by_cases h : v = w
  · subst h; simp [Scalar.select, IntOp.cmpi]
  · simp [Scalar.select, IntOp.cmpi, h, beq_eq_false_iff_ne.mpr h, bne_iff_ne.mpr h]

theorem select_ne_word {α : Type} (v w : BitVec 32) (x y : α) : Scalar.select (IntOp.cmpi .ne v w) x y = if v = w then y else x := by
  by_cases h : v = w
  · subst h; simp [Scalar.select, IntOp.cmpi]
  · simp [Scalar.select, IntOp.cmpi, h, beq_eq_false_iff_ne.mpr h, bne_iff_ne.mpr h]

theorem zero_add' (x : Ideal .f32) : FloatOps.addf (FloatOps.ofBits .f32 0x00000000#32) x = x := by simp
theorem add_zero' (x : Ideal .f32) : FloatOps.addf x (FloatOps.ofBits .f32 0x00000000#32) = x := by simp
theorem mul_one' (x : Ideal .f32) : FloatOps.mulf x (FloatOps.ofBits .f32 0x3F800000#32) = x := by simp

theorem dist_first (h : c.val = 0) : Ref.dist t b o c = dOf 2 t b o := by
  have hb : c.val = b.toNat ↔ b = 0#32 := by
    rw [h]; exact ⟨fun e => BitVec.eq_of_toNat_eq (by simpa using e.symm), fun e => by simp [e]⟩
  simp only [Ref.dist, dOf, dZ, if_pos h, zero_add', hb]
  by_cases h1 : t = 0#32
  · subst h1; by_cases h2 : b = 0#32 <;> simp [Scalar.select, IntOp.cmpi, IntOp.andi, h2]
  · have ht : (t == 0#32) = false := beq_eq_false_iff_ne.mpr h1
    have ht' : (t != 0#32) = true := bne_iff_ne.mpr h1
    by_cases h2 : b = 0#32
    · subst h2; simp [Scalar.select, IntOp.cmpi, IntOp.andi, ht, ht']
    · have hb' : (b == 0#32) = false := beq_eq_false_iff_ne.mpr h2
      simp [Scalar.select, IntOp.cmpi, IntOp.andi, h2, ht, ht', hb']

theorem dist_target (h : c.val ≠ 0) (ht : c.val = t.toNat) : Ref.dist t b o c = dOf 1 t b o := by
  have hb : c.val = b.toNat ↔ b = t := by
    rw [ht]; exact ⟨fun e => BitVec.eq_of_toNat_eq e.symm, fun e => by rw [e]⟩
  simp only [Ref.dist, dOf, dT, if_neg h, if_pos ht, hb, select_eq_word, select_ne_word]

theorem dist_biased (h : c.val ≠ 0) (ht : c.val ≠ t.toNat) (hb : c.val = b.toNat) : Ref.dist t b o c = dOf 0 t b o := by
  simp only [Ref.dist, dOf, dB, if_neg h, if_neg ht, if_pos hb, select_eq_word, select_ne_word, mul_one']

theorem dist_other (h : c.val ≠ 0) (ht : c.val ≠ t.toNat) (hb : c.val ≠ b.toNat) :
    Ref.dist t b o c = if t = 0#32 then FloatOps.ofBits .f32 0x00000000#32 else FloatOps.ofBits .f32 0x3651BA72#32 := by
  simp only [Ref.dist, if_neg h, if_neg ht, if_neg hb, select_eq_word, mul_one', add_zero']

theorem uniform (p : Ideal .f32) :
    FloatOps.subf (if t = 0#32 then FloatOps.ofBits .f32 0x00000000#32 else Named.named (F := Ideal) Cert.KernelIdeal.κ "u_log_u" (φ := .f32) 0xB826284D#32)
        (FloatOps.mulf (if t = 0#32 then FloatOps.ofBits .f32 0x00000000#32 else FloatOps.ofBits .f32 0x3651BA72#32) p)
      = result (if t = 0#32 then FloatOps.ofBits .f32 0x00000000#32 else FloatOps.ofBits .f32 0x3651BA72#32) p := by
  split
  · have e : FloatOps.ofBits (F := Ideal) .f32 0x00000000#32 = (0 : EReal) := by simp
    rw [e, result_zero]; rfl
  · have e : FloatOps.ofBits (F := Ideal) .f32 0x3651BA72#32 = ((6872377 / 2199023255552 : ℝ) : EReal) := smoothing
    rw [e, result_pos _ (by norm_num), smoothing_log, EReal.coe_mul]; rfl

/-- The two results agree at a column, the special columns' values being those of their own predictions. -/
theorem column (h : ∃ x : ℝ, 0 ≤ x ∧ x ≤ 1 ∧ o = (x : EReal)) (p : Fin 32000 → Ideal .f32) (v : Fin 3 → Ideal .f32)
    (hv : ∀ a : Fin 3, (colOf a t b).toNat = c.val → v a = FloatOps.subf (gOf (dOf a t b o)) (FloatOps.mulf (dOf a t b o) (p c))) :
    streamAt (BitVec.ofNat 32 c.val) t b (v 0) (v 1) (v 2) (p c) = result (Ref.dist t b o c) (p c) := by
  unfold streamAt
  simp only [select_eq_word, select_ne_word, word_iff]
  by_cases h0 : c.val = 0
  · rw [if_pos (by simpa using h0), dist_first t b o c h0, hv 2 (by simpa [colOf] using h0.symm), special 2 t b h]
  rw [if_neg (by simpa using h0)]
  by_cases h1 : c.val = t.toNat
  · rw [if_pos h1, dist_target t b o c h0 h1, hv 1 h1.symm, special 1 t b h]
  rw [if_neg h1]
  by_cases h2 : c.val = b.toNat
  · rw [if_pos h2, dist_biased t b o c h0 h1 h2, hv 0 h2.symm, special 0 t b h]
  rw [if_neg h2, dist_other t b o c h0 h1 h2]
  exact uniform t (p c)

end Classes

end Cert.Proof.Equation

end
-- ==== Proof.Algebraic.lean ====
/-
  Over the extended reals the kernel and the reference leave the same result.
-/
module

public import proofs.«01_k».proof.Proof.Equation
public import proofs.«01_k».proof.Proof.Frames

@[expose] public section

noncomputable section

namespace Cert.Proof

open Idealize.ShloMosaic Idealize.SL.Sem

/-- The two sides number the rows alike. -/
theorem cell_eq (r : Fin 2048) : Ref.cell r = Run.cellAt r := by
  funext a
  match a with
  | 0 => exact Fin.ext rfl
  | 1 => exact Fin.ext rfl

theorem cell3_eq (r : Fin 2048) (c : Fin 32000) : Ref.cell3 r c = Run.cellAt3 r c := by
  funext a
  match a with
  | 0 => exact Fin.ext (show (r.val * 32000 + c.val) / 16384000 = r.val / 512 by have := c.isLt; omega)
  | 1 => exact Fin.ext (show (r.val * 32000 + c.val) / 32000 % 512 = r.val % 512 by have := c.isLt; omega)
  | 2 => exact Fin.ext (show (r.val * 32000 + c.val) % 32000 = c.val by have := c.isLt; omega)

/-- The index of row `r` and column `c`, written in the library's two ways. -/
theorem pair_eq (r : Fin 2048) (c : Fin 32000) : (ix2 r c : (⟨2, ![2048, 32000]⟩ : Shape).Idx) = ValueIdx.ix2 r c := by
  funext a
  match a with
  | 0 => rfl
  | 1 => rfl

section Value
open Cert.KernelIdeal
variable (m : (ℓ : Loc nD τ sig) → Buf (Elt Ideal) ℓ) (d : Dev nD)

/-- The kernel's result, index by index, is the reference's value of the same arguments. -/
theorem value_eq (h1 : ∀ i, (Run.A1 m d i).toNat < 32000) (h2 : ∀ i, (Run.A2 m d i).toNat < 32000)
    (h3 : ∀ i, FloatOps.cmpf .oge (Run.A3 m d i) (FloatOps.ofBits .f32 0x00000000#32) = 1#1
      ∧ FloatOps.cmpf .ole (Run.A3 m d i) (FloatOps.ofBits .f32 0x3F800000#32) = 1#1) :
    Run.V6 m d (Proc.devRef .tc main_v20)
      = Cert.ReferenceIdeal.Read.val_main_v61 (F := Ideal) (Run.A0 m d) (Run.A1 m d) (Run.A2 m d) (Run.A3 m d) := by
  funext j
  obtain ⟨r, c, rfl⟩ : ∃ (r : Fin 2048) (c : Fin 32000), j = ix2 r c := ⟨_, _, eq_ix2 j⟩
  refine (Run.result_at m d r c).trans (Eq.trans ?_ ((congrArg _ (pair_eq r c)).trans
    (Ref.v61_at (Run.A0 m d) (Run.A1 m d) (Run.A2 m d) (Run.A3 m d) h1 h2 r c)).symm)
  rw [cell_eq, cell3_eq]
  exact Equation.column _ _ _ c (Equation.offset_real (h3 _).1 (h3 _).2) (fun k => Run.A0 m d (Run.cellAt3 r k))
    (fun a => Run.scOut (Run.X m d) (ix2 a r)) fun a ha => Run.gathered m d a r c ha

end Value

theorem algebraic : Cert.algebraic_KernelIdeal_ReferenceIdeal_pre_in_range := fun m g m' g' hm hargs =>
  have hpre := fun c => Pre.ranges _ _ _ _ (hm c)
  ⟨fun c => Run.V6 m c (Proc.devRef .tc Cert.KernelIdeal.main_v20),
    (θ_run _ _ _).mono (fun r h c => ⟨Run.end_of m c r h Cert.KernelIdeal.main_v20 (Run.uc_args _ (by simp)), Run.end_args m c r h⟩)
      (Run.run_main m g fun c => Run.inVocab m c (hpre c).1.1 (hpre c).1.2),
    (θ_run _ _ _).mono (fun r h c => ⟨(h c).1.trans ((Cert.ReferenceIdeal.Read.val_main_v61_eq m' c).trans (by
        rw [(hargs c).1, (hargs c).2.1, (hargs c).2.2.1, (hargs c).2.2.2]
        exact (value_eq m c (hpre c).1.1 (hpre c).1.2 (hpre c).2).symm)), (h c).2⟩)
      (Cert.ReferenceIdeal.Value.run m' g')⟩

end Cert.Proof

end
-- ==== Proof.lean ====
/-
  The proof of the certificate's claim: the three frames, the named constant's statement, the equality of the results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_targets_in_vocab
public import proofs.«01_k».proof.Proof.Gen.Pre_in_range
public import proofs.«01_k».proof.Proof.Reference
public import proofs.«01_k».proof.Proof.IdealFrames
public import proofs.«01_k».proof.Proof.PrintedFrame
public import proofs.«01_k».proof.Proof.Algebraic
public import Idealize.ShloMosaic.Adequacy
public import Idealize.ShloMosaic.Init

@[expose] public section

noncomputable section

namespace Cert.Proof

open Idealize.ShloMosaic Idealize.SL.Sem

/-- The table of named constants has the constant's name, at the product that the claim states. -/
theorem named_preserved : Cert.preserves_Kernel_KernelIdeal := IdealRules.named_const.statement _ _ _ _ _ rfl

theorem claim : Cert.Claim := ⟨Cert.Kernel.Gen.facts, Cert.KernelIdeal.Gen.facts, Cert.ReferenceIdeal.Gen.facts, Cert.Pre_targets_in_vocab.Gen.facts,
  Cert.Pre_in_range.Gen.facts, frame_printed, frame_ideal, frame_ideal_in_range, frame_reference, fun m g _ => frame_reference m g trivial,
  named_preserved, algebraic⟩

end Cert.Proof

end
